-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![4096, 1024]⟩ ⟨2, ![8192, 1024]⟩ (Layout.meshBlock [2, 2, 2] ![[1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4096x1024 : Shape := ⟨2, ![4096, 1024]⟩
abbrev S8192x1024 : Shape := ⟨2, ![8192, 1024]⟩
abbrev S8 : Shape := ⟨1, ![8]⟩
abbrev S_ : Shape := ⟨0, ![]⟩
abbrev S256x1024 : Shape := ⟨2, ![256, 1024]⟩
abbrev S1 : Shape := ⟨1, ![1]⟩
abbrev S2048x1024 : Shape := ⟨2, ![2048, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4096x1024, .bf16⟩
  | .hbm, ⟨1, _⟩ => ⟨S8192x1024, .bf16⟩
  | .local _ .vmem, ⟨0, _⟩ => ⟨S4096x1024, .bf16⟩
  | .local _ .vmem, ⟨1, _⟩ => ⟨S8192x1024, .bf16⟩
  | _, _ => ⟨S4096x1024, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32 v12
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_7 : BitVec 32 := 2#32
  let v14 : BitVec 32 := Scalar.muli v9 c2_i32_7
  let v15 : BitVec 32 := Scalar.addi v13 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_8 : BitVec 32 := 1#32
  let v16 : BitVec 32 := Scalar.muli v8 c1_i32_8
  let v17 : BitVec 32 := Scalar.addi v15 v16
  v17.toNat
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_13 : BitVec 32 := 1#32
  let v22 : BitVec 32 := Scalar.muli v10 c1_i32_13
  let v23 : BitVec 32 := Scalar.addi v21 v22
  v23.toNat
def k0_off1 (d0 : Dev nD) (c0_i32_17 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v27 : BitVec 32 := Scalar.muli v8 c2048_i32
  let v28 : BitVec 32 := Scalar.addi v27 c0_i32_17
  let v30 : Index := Scalar.indexCast v28
  let c0 : Index := 0#32
  ![v30.toNat, 0]
def k0_off2 (d0 : Dev nD) (c0_i32_17 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v24 : BitVec 32 := Scalar.muli v5 c4096_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v27 : BitVec 32 := Scalar.muli v8 c2048_i32
  let v28 : BitVec 32 := Scalar.addi v27 c0_i32_17
  let v29 : BitVec 32 := Scalar.addi v24 v28
  let v33 : Index := Scalar.indexCast v29
  let c0_18 : Index := 0#32
  ![v33.toNat, 0]
def k0_off3 (d0 : Dev nD) (c0_i32_17 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v24 : BitVec 32 := Scalar.muli v5 c4096_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v27 : BitVec 32 := Scalar.muli v8 c2048_i32
  let v28 : BitVec 32 := Scalar.addi v27 c0_i32_17
  let v29 : BitVec 32 := Scalar.addi v24 v28
  let c0_i32_25 : BitVec 32 := 0#32
  ![v29.toNat, 0]
def k0_dev3 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v35 : BitVec 32 := Scalar.muli v2 c4_i32_21
  let v36 : BitVec 32 := Scalar.addi c0_i32_22 v35
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_23 : BitVec 32 := 2#32
  let v37 : BitVec 32 := Scalar.muli v9 c2_i32_23
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v39 : BitVec 32 := Scalar.muli v8 c1_i32_24
  let v40 : BitVec 32 := Scalar.addi v38 v39
  v40.toNat
def k0_dev4 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v55 : BitVec 32 := Scalar.muli v2 c4_i32_32
  let v56 : BitVec 32 := Scalar.addi c0_i32_33 v55
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_34 : BitVec 32 := 2#32
  let v57 : BitVec 32 := Scalar.muli v9 c2_i32_34
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v59 : BitVec 32 := Scalar.muli v8 c1_i32_35
  let v60 : BitVec 32 := Scalar.addi v58 v59
  v60.toNat
def k0_dev5 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v75 : BitVec 32 := Scalar.muli v2 c4_i32_43
  let v76 : BitVec 32 := Scalar.addi c0_i32_44 v75
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_45 : BitVec 32 := 2#32
  let v77 : BitVec 32 := Scalar.muli v9 c2_i32_45
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v79 : BitVec 32 := Scalar.muli v8 c1_i32_46
  let v80 : BitVec 32 := Scalar.addi v78 v79
  v80.toNat
def k0_dev6 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v95 : BitVec 32 := Scalar.muli v2 c4_i32_53
  let v96 : BitVec 32 := Scalar.addi c0_i32_54 v95
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_55 : BitVec 32 := 2#32
  let v97 : BitVec 32 := Scalar.muli v9 c2_i32_55
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v99 : BitVec 32 := Scalar.muli v8 c1_i32_56
  let v100 : BitVec 32 := Scalar.addi v98 v99
  v100.toNat
def k0_dev7 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v115 : BitVec 32 := Scalar.muli v2 c4_i32_64
  let v116 : BitVec 32 := Scalar.addi c0_i32_65 v115
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_66 : BitVec 32 := 2#32
  let v117 : BitVec 32 := Scalar.muli v9 c2_i32_66
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v119 : BitVec 32 := Scalar.muli v8 c1_i32_67
  let v120 : BitVec 32 := Scalar.addi v118 v119
  v120.toNat
def k0_dev8 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v135 : BitVec 32 := Scalar.muli v2 c4_i32_74
  let v136 : BitVec 32 := Scalar.addi c0_i32_75 v135
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_76 : BitVec 32 := 2#32
  let v137 : BitVec 32 := Scalar.muli v9 c2_i32_76
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v139 : BitVec 32 := Scalar.muli v8 c1_i32_77
  let v140 : BitVec 32 := Scalar.addi v138 v139
  v140.toNat
def k0_dev9 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_84 : BitVec 32 := 4#32
  let v155 : BitVec 32 := Scalar.muli v2 c4_i32_84
  let v156 : BitVec 32 := Scalar.addi c0_i32_85 v155
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_86 : BitVec 32 := 2#32
  let v157 : BitVec 32 := Scalar.muli v9 c2_i32_86
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v159 : BitVec 32 := Scalar.muli v8 c1_i32_87
  let v160 : BitVec 32 := Scalar.addi v158 v159
  v160.toNat
def k0_dev10 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v175 : BitVec 32 := Scalar.muli v2 c4_i32_94
  let v176 : BitVec 32 := Scalar.addi c0_i32_95 v175
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_96 : BitVec 32 := 2#32
  let v177 : BitVec 32 := Scalar.muli v9 c2_i32_96
  let v178 : BitVec 32 := Scalar.addi v176 v177
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_97 : BitVec 32 := 1#32
  let v179 : BitVec 32 := Scalar.muli v8 c1_i32_97
  let v180 : BitVec 32 := Scalar.addi v178 v179
  v180.toNat
def k0_off4 (d0 : Dev nD) : Fin 2 → Nat :=
  let c1_i32_102 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v190 : BitVec 32 := Scalar.subi c1_i32_102 v8
  let c2048_i32_103 : BitVec 32 := 2048#32
  let v191 : BitVec 32 := Scalar.muli v190 c2048_i32_103
  let v192 : Index := Scalar.indexCast v191
  let c0_104 : Index := 0#32
  ![v192.toNat, 0]
def k0_off5 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v24 : BitVec 32 := Scalar.muli v5 c4096_i32
  let c1_i32_100 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v187 : BitVec 32 := Scalar.subi c1_i32_100 v8
  let c2048_i32_101 : BitVec 32 := 2048#32
  let v188 : BitVec 32 := Scalar.muli v187 c2048_i32_101
  let v189 : BitVec 32 := Scalar.addi v24 v188
  let v195 : Index := Scalar.indexCast v189
  let c0_105 : Index := 0#32
  ![v195.toNat, 0]
def k0_off6 (d0 : Dev nD) (c0_i32_107 : BitVec 32) : Fin 2 → Nat :=
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_15 v5
  let c4096_i32_16 : BitVec 32 := 4096#32
  let v26 : BitVec 32 := Scalar.muli v25 c4096_i32_16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32_106 : BitVec 32 := 2048#32
  let v197 : BitVec 32 := Scalar.muli v8 c2048_i32_106
  let v198 : BitVec 32 := Scalar.addi v26 v197
  let v199 : BitVec 32 := Scalar.addi v198 c0_i32_107
  let c0_i32_114 : BitVec 32 := 0#32
  ![v199.toNat, 0]
def k0_dev11 (d0 : Dev nD) : Nat :=
  let c0_i32_119 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_118 : BitVec 32 := 4#32
  let v210 : BitVec 32 := Scalar.muli v2 c4_i32_118
  let v211 : BitVec 32 := Scalar.addi c0_i32_119 v210
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_120 : BitVec 32 := 2#32
  let v212 : BitVec 32 := Scalar.muli v5 c2_i32_120
  let v213 : BitVec 32 := Scalar.addi v211 v212
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_121 : BitVec 32 := 1#32
  let v214 : BitVec 32 := Scalar.muli v10 c1_i32_121
  let v215 : BitVec 32 := Scalar.addi v213 v214
  v215.toNat
def k0_dev12 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v235 : BitVec 32 := Scalar.muli v2 c4_i32_136
  let v236 : BitVec 32 := Scalar.addi c0_i32_137 v235
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_138 : BitVec 32 := 2#32
  let v237 : BitVec 32 := Scalar.muli v5 c2_i32_138
  let v238 : BitVec 32 := Scalar.addi v236 v237
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_139 : BitVec 32 := 1#32
  let v239 : BitVec 32 := Scalar.muli v10 c1_i32_139
  let v240 : BitVec 32 := Scalar.addi v238 v239
  v240.toNat
def k0_dev13 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v260 : BitVec 32 := Scalar.muli v2 c4_i32_154
  let v261 : BitVec 32 := Scalar.addi c0_i32_155 v260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v262 : BitVec 32 := Scalar.muli v5 c2_i32_156
  let v263 : BitVec 32 := Scalar.addi v261 v262
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_157 : BitVec 32 := 1#32
  let v264 : BitVec 32 := Scalar.muli v10 c1_i32_157
  let v265 : BitVec 32 := Scalar.addi v263 v264
  v265.toNat
def k0_dev14 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v285 : BitVec 32 := Scalar.muli v2 c4_i32_172
  let v286 : BitVec 32 := Scalar.addi c0_i32_173 v285
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v287 : BitVec 32 := Scalar.muli v5 c2_i32_174
  let v288 : BitVec 32 := Scalar.addi v286 v287
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_175 : BitVec 32 := 1#32
  let v289 : BitVec 32 := Scalar.muli v10 c1_i32_175
  let v290 : BitVec 32 := Scalar.addi v288 v289
  v290.toNat
def k0_dev15 (d0 : Dev nD) : Nat :=
  let c0_i32_191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_190 : BitVec 32 := 4#32
  let v310 : BitVec 32 := Scalar.muli v2 c4_i32_190
  let v311 : BitVec 32 := Scalar.addi c0_i32_191 v310
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_192 : BitVec 32 := 2#32
  let v312 : BitVec 32 := Scalar.muli v5 c2_i32_192
  let v313 : BitVec 32 := Scalar.addi v311 v312
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_193 : BitVec 32 := 1#32
  let v314 : BitVec 32 := Scalar.muli v10 c1_i32_193
  let v315 : BitVec 32 := Scalar.addi v313 v314
  v315.toNat
def k0_dev16 (d0 : Dev nD) : Nat :=
  let c0_i32_209 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_208 : BitVec 32 := 4#32
  let v335 : BitVec 32 := Scalar.muli v2 c4_i32_208
  let v336 : BitVec 32 := Scalar.addi c0_i32_209 v335
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_210 : BitVec 32 := 2#32
  let v337 : BitVec 32 := Scalar.muli v5 c2_i32_210
  let v338 : BitVec 32 := Scalar.addi v336 v337
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_211 : BitVec 32 := 1#32
  let v339 : BitVec 32 := Scalar.muli v10 c1_i32_211
  let v340 : BitVec 32 := Scalar.addi v338 v339
  v340.toNat
def k0_dev17 (d0 : Dev nD) : Nat :=
  let c0_i32_227 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_226 : BitVec 32 := 4#32
  let v360 : BitVec 32 := Scalar.muli v2 c4_i32_226
  let v361 : BitVec 32 := Scalar.addi c0_i32_227 v360
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_228 : BitVec 32 := 2#32
  let v362 : BitVec 32 := Scalar.muli v5 c2_i32_228
  let v363 : BitVec 32 := Scalar.addi v361 v362
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_229 : BitVec 32 := 1#32
  let v364 : BitVec 32 := Scalar.muli v10 c1_i32_229
  let v365 : BitVec 32 := Scalar.addi v363 v364
  v365.toNat
def k0_dev18 (d0 : Dev nD) : Nat :=
  let c0_i32_245 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_244 : BitVec 32 := 4#32
  let v385 : BitVec 32 := Scalar.muli v2 c4_i32_244
  let v386 : BitVec 32 := Scalar.addi c0_i32_245 v385
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_246 : BitVec 32 := 2#32
  let v387 : BitVec 32 := Scalar.muli v5 c2_i32_246
  let v388 : BitVec 32 := Scalar.addi v386 v387
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_247 : BitVec 32 := 1#32
  let v389 : BitVec 32 := Scalar.muli v10 c1_i32_247
  let v390 : BitVec 32 := Scalar.addi v388 v389
  v390.toNat
def k0_off7 (d0 : Dev nD) (c0_i32_252 : BitVec 32) : Fin 2 → Nat :=
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_15 v5
  let c4096_i32_16 : BitVec 32 := 4096#32
  let v26 : BitVec 32 := Scalar.muli v25 c4096_i32_16
  let c1_i32_250 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v397 : BitVec 32 := Scalar.subi c1_i32_250 v8
  let c2048_i32_251 : BitVec 32 := 2048#32
  let v398 : BitVec 32 := Scalar.muli v397 c2048_i32_251
  let v399 : BitVec 32 := Scalar.addi v26 v398
  let v400 : BitVec 32 := Scalar.addi v399 c0_i32_252
  let c0_i32_259 : BitVec 32 := 0#32
  ![v400.toNat, 0]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S8192x1024 : Shape := ⟨2, ![8192, 1024]⟩

abbrev nBuf : Space → Nat
  | .hbm => 1
  | .vmem => 0
  | .smem => 0
  | _ => 0

abbrev bufTy : (tb : Table) → Fin (tcTables nBuf tb) → BufTy
  | .hbm, ⟨0, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
The mesh, the rows of the result and the gathered array, on plain arrays.

The eight devices form a 2 x 2 x 2 cube; device `c` sits at `(c / 4, c / 2 % 2, c % 2)` on the axes x, y, z.
The 8192 rows of the result are cut into four quarters of 2048 rows, each into eight chunks of 256 rows.
-/
module

public import Idealize.ShloMosaic.Lib.Pipeline.ValueKit
public import Idealize.ShloMosaic.Lib.Pointwise.Index

@[expose] public section

namespace Cert.Gather

open Idealize.ShloMosaic

/-- The shape of a device's block of the argument. -/
abbrev InS : Shape := ⟨2, ![4096, 1024]⟩
/-- The shape of the gathered array. -/
abbrev OutS : Shape := ⟨2, ![8192, 1024]⟩

set_option backward.proofsInPublic true in
/-- The neighbour across the y axis: the y coordinate flipped. -/
def acrossY (c : Fin 8) : Fin 8 := ⟨(4 * (c.val / 4) + c.val % 2 + 2) - 2 * ((c.val / 2) % 2), by have := c.isLt; omega⟩
set_option backward.proofsInPublic true in
/-- The neighbour across the z axis: the z coordinate flipped. -/
def acrossZ (c : Fin 8) : Fin 8 := ⟨(4 * (c.val / 4) + 2 * ((c.val / 2) % 2) + 1) - c.val % 2, by have := c.isLt; omega⟩

/-- Flipping y twice is staying. -/
theorem acrossY_twice : ∀ c, acrossY (acrossY c) = c := by decide
/-- Flipping z twice is staying. -/
theorem acrossZ_twice : ∀ c, acrossZ (acrossZ c) = c := by decide
/-- The two flips commute. -/
theorem acrossY_acrossZ : ∀ c, acrossY (acrossZ c) = acrossZ (acrossY c) := by decide

/-- Flipping y, as a permutation of the devices. -/
def flipY : Fin 8 ≃ Fin 8 := ⟨acrossY, acrossY, acrossY_twice, acrossY_twice⟩
/-- Flipping z, as a permutation of the devices. -/
def flipZ : Fin 8 ≃ Fin 8 := ⟨acrossZ, acrossZ, acrossZ_twice, acrossZ_twice⟩

/-- The quarter of the result which device `c` reads from its block and sends on: `2 y + z`. -/
def own (c : Fin 8) : ℕ := c.val % 4

/-- The device whose block the quarter `q` of device `c`'s result comes from. -/
def source (c : Fin 8) (q : ℕ) : Fin 8 :=
  if q = own c ∨ q = own (acrossZ c) then c else if q = own (acrossY c) then acrossY c else acrossY (acrossZ c)

/-- A device's own quarter is of its own block. -/
theorem source_own : ∀ c, source c (own c) = c := by decide
/-- So is the quarter its z neighbour sends across y. -/
theorem source_half : ∀ c, source c (own (acrossZ c)) = c := by decide
/-- Across y the neighbour takes `c`'s own quarter from `c`. -/
theorem source_acrossY : ∀ c, source (acrossY c) (own c) = c := by decide
/-- The quarter that comes across y is of the y neighbour's block. -/
theorem source_ofY : ∀ c, source c (own (acrossY c)) = acrossY c := by decide
/-- Across z the neighbour takes the quarter it is sent from where `c` has it from. -/
theorem source_acrossZ : ∀ c, source (acrossZ c) (own (acrossY c)) = acrossY c := by decide
/-- A quarter's source lies in the half of the mesh the quarter belongs to. -/
theorem source_half_of : ∀ c, ∀ q : Fin 4, (source c q.val).val / 2 % 2 = q.val / 2 := by decide

section Arrays

variable {α : Type*}

set_option backward.proofsInPublic true in
/-- The array device `c` ends with, `x d` being device `d`'s block: row `r` is row `r % 4096` of the block of the
    source of the quarter `r / 2048`. -/
def gathered (x : Fin 8 → InS.Idx → α) (c : Fin 8) : OutS.Idx → α :=
  fun p => x (source c ((p 0).val / 2048)) (ix2 ⟨(p 0).val % 4096, Nat.mod_lt _ (by decide)⟩ (p 1))

/-- Rows `lo`, …, `lo + len - 1` of the result. -/
def band (lo len : ℕ) : Finset OutS.Idx := Finset.univ.filter fun p => lo ≤ (p 0).val ∧ (p 0).val < lo + len
/-- Chunk `i` of quarter `q`. -/
def chunk (q : ℕ) (i : Fin 8) : Finset OutS.Idx := band (2048 * q + 256 * i.val) 256
/-- Quarter `q`. -/
def quarter (q : ℕ) : Finset OutS.Idx := band (2048 * q) 2048

/-- Membership in a band of rows. -/
theorem mem_band {lo len : ℕ} {p : OutS.Idx} : p ∈ band lo len ↔ lo ≤ (p 0).val ∧ (p 0).val < lo + len := by
  simp [band]

/-- Membership in a chunk. -/
theorem mem_chunk {q : ℕ} {i : Fin 8} {p : OutS.Idx} :
    p ∈ chunk q i ↔ 2048 * q + 256 * i.val ≤ (p 0).val ∧ (p 0).val < 2048 * q + 256 * i.val + 256 := mem_band

/-- Membership in a quarter. -/
theorem mem_quarter {q : ℕ} {p : OutS.Idx} : p ∈ quarter q ↔ (p 0).val / 2048 = q := by
  rw [quarter, mem_band]; omega

/-- The rows of a chunk are rows of its quarter. -/
theorem chunk_quarter {q : ℕ} {i : Fin 8} {p : OutS.Idx} (h : p ∈ chunk q i) : (p 0).val / 2048 = q := by
  rw [mem_chunk] at h; have := i.isLt; omega

/-- A quarter is its eight chunks; -/
theorem quarter_chunks (q : ℕ) : quarter q = Finset.univ.biUnion (chunk q) := by
  ext p
  simp only [Finset.mem_biUnion, Finset.mem_univ, true_and, mem_quarter, mem_chunk]
  constructor
  · intro h
    exact ⟨⟨(p 0).val % 2048 / 256, by omega⟩, by constructor <;> dsimp only <;> omega⟩
  · rintro ⟨i, h⟩; have := i.isLt; omega

/-- which do not overlap. -/
theorem chunks_disjoint (q : ℕ) : ∀ i ∈ (Finset.univ : Finset (Fin 8)), ∀ j ∈ (Finset.univ : Finset (Fin 8)), i ≠ j → Disjoint (chunk q i) (chunk q j) := by
  intro i _ j _ hij
  refine Finset.disjoint_left.mpr fun p hi hj => hij (Fin.ext ?_)
  rw [mem_chunk] at hi hj; omega

/-- The quarters in the order in which device `c` meets them: its own, the other of its block, the one its y neighbour
    sends, the one its z neighbour sends. -/
def turn (c : Fin 8) : Fin 4 → ℕ := ![own c, own (acrossZ c), own (acrossY c), own (acrossY (acrossZ c))]

/-- Every quarter has its turn. -/
theorem turn_covers : ∀ c, ∀ q : Fin 4, ∃ k, turn c k = q.val := by decide
/-- No quarter has two turns. -/
theorem turn_injective : ∀ c, ∀ k l, turn c k = turn c l → k = l := by decide

/-- The result is its four quarters; -/
theorem univ_quarters (c : Fin 8) : (Finset.univ : Finset OutS.Idx) = Finset.univ.biUnion fun k => quarter (turn c k) := by
  ext p
  simp only [Finset.mem_biUnion, Finset.mem_univ, true_and, mem_quarter, true_iff]
  have hp : (p 0).val < 8192 := (p 0).isLt
  obtain ⟨k, hk⟩ := turn_covers c ⟨(p 0).val / 2048, by omega⟩
  exact ⟨k, hk.symm⟩

/-- which do not overlap. -/
theorem quarters_disjoint (c : Fin 8) : ∀ k ∈ (Finset.univ : Finset (Fin 4)), ∀ l ∈ (Finset.univ : Finset (Fin 4)), k ≠ l → Disjoint (quarter (turn c k)) (quarter (turn c l)) := by
  intro k _ l _ hkl
  refine Finset.disjoint_left.mpr fun p hk hl => hkl (turn_injective c k l ?_)
  rw [mem_quarter] at hk hl; omega

variable (x : Fin 8 → InS.Idx → α) (c : Fin 8)

/-- On `c`'s own quarter the y neighbour's array is `c`'s. -/
theorem gathered_acrossY {p : OutS.Idx} (h : (p 0).val / 2048 = own c) : gathered x (acrossY c) p = gathered x c p := by
  unfold gathered; rw [h, source_acrossY, source_own]

/-- On the quarter `c` has from its y neighbour, the z neighbour's array is `c`'s. -/
theorem gathered_acrossZ {p : OutS.Idx} (h : (p 0).val / 2048 = own (acrossY c)) : gathered x (acrossZ c) p = gathered x c p := by
  unfold gathered; rw [h, source_acrossZ, source_ofY]

/-- On the half of the result that is `c`'s block, the array is the block. -/
theorem gathered_block {p : OutS.Idx} (h : (p 0).val / 2048 = own c ∨ (p 0).val / 2048 = own (acrossZ c)) (j : InS.Idx)
    (h0 : (j 0).val = (p 0).val % 4096) (h1 : (j 1).val = (p 1).val) : gathered x c p = x c j := by
  unfold gathered
  have hs : source c ((p 0).val / 2048) = c := by rcases h with h | h <;> rw [h]; exacts [source_own c, source_half c]
  rw [hs]
  congr 1
  funext a
  match a with
  | ⟨0, _⟩ => exact Fin.ext h0.symm
  | ⟨1, _⟩ => exact Fin.ext h1.symm

/-- Where every block is its device's half of one array, the gathered array is that array. -/
theorem gathered_whole (X : OutS.Idx → α)
    (hx : ∀ d (j : InS.Idx) (p : OutS.Idx), (p 0).val = 4096 * (d.val / 2 % 2) + (j 0).val → (p 1).val = (j 1).val → x d j = X p) :
    gathered x c = X := by
  funext p
  have hp : (p 0).val < 8192 := (p 0).isLt
  refine hx _ _ p ?_ rfl
  rw [source_half_of c ⟨(p 0).val / 2048, by omega⟩]
  show (p 0).val = 4096 * ((p 0).val / 2048 / 2) + (p 0).val % 4096
  omega

end Arrays

end Cert.Gather

end
-- ==== Proof.Protocol.lean ====
/-
The protocol of the exchange: the semaphore cells, what each of them hands over, what is owed, and the order in
which the cells are waited for.

A device has one barrier cell and thirty-two transfer cells: four kinds (sent across y, received across y, sent
across z, received across z) of eight chunks.
-/
module

public import proofs.«01_k».proof.Proof.Mesh
public import proofs.«01_k».proof.Proof.Gen.KernelIdeal
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's part of the ghost state; -/
abbrev XU : Type := URounds (GSem nD τ sig) Bool
/-- and the whole: the pipeline's part beside it. -/
abbrev GU : Type := UR sig nD τ × XU

local notation "𝕄" => MT nD τ sig Unit (Elt F) ℕ GU ℕ

/-- Where the pipeline's part sits; -/
abbrev EPipe : Emb (UR sig nD τ) (MT nD τ sig Unit (Elt F) ℕ GU ℕ) := embL
/-- where the exchange's part sits. -/
abbrev EX : Emb XU (MT nD τ sig Unit (Elt F) ℕ GU ℕ) := embR

/-! ### Cells -/

/-- The barrier semaphore. -/
abbrev barS : Sem sig := (SemArray.scalar (sig.barrier 0 rfl) : Sems sig S_).sem

set_option backward.proofsInPublic true in
/-- The semaphore of kind `k` (0 sent across y, 1 received across y, 2 sent across z, 3 received across z) of chunk `i`. -/
def semAt (k : Fin 4) (i : Fin 8) : DmaSem sig :=
  ⟨2 + 8 * k.val + i.val, by have := k.isLt; have := i.isLt; show _ < 34; omega⟩

set_option backward.proofsInPublic true in
/-- A semaphore's kind; -/
def kindOf (s : DmaSem sig) : Fin 4 := ⟨(s.val - 2) / 8 % 4, Nat.mod_lt _ (by decide)⟩
set_option backward.proofsInPublic true in
/-- a semaphore's chunk. -/
def chunkOf (s : DmaSem sig) : Fin 8 := ⟨(s.val - 2) % 8, Nat.mod_lt _ (by decide)⟩

/-- The kind of a transfer semaphore is the one it is named by. -/
theorem kindOf_semAt (k : Fin 4) (i : Fin 8) : kindOf (semAt k i) = k :=
  Fin.ext (by have := k.isLt; have := i.isLt; show (2 + 8 * k.val + i.val - 2) / 8 % 4 = k.val; omega)
/-- So is its chunk. -/
theorem chunkOf_semAt (k : Fin 4) (i : Fin 8) : chunkOf (semAt k i) = i :=
  Fin.ext (by have := k.isLt; have := i.isLt; show (2 + 8 * k.val + i.val - 2) % 8 = i.val; omega)

/-- A device's cells: the barrier's, or a kind and a chunk. -/
abbrev CellName : Type := Option (Fin 4 × Fin 8)

/-- The semaphore of a cell. -/
def semOf : CellName → SemLoc sig
  | none => .reg barS
  | some ki => .dma (semAt ki.1 ki.2)

/-- The cell `n` of device `c`. -/
abbrev cellAt (c : Dev nD) (n : CellName) : GSem nD τ sig := ((c : Thread nD τ), semOf n)
/-- The barrier cell of device `c`. -/
abbrev barCell (c : Dev nD) : GSem nD τ sig := ((c : Thread nD τ), .reg barS)
/-- The cell of kind `k` and chunk `i` of device `c`. -/
abbrev dmaCell (c : Dev nD) (k : Fin 4) (i : Fin 8) : GSem nD τ sig := ((c : Thread nD τ), .dma (semAt k i))

/-- Different transfers have different semaphores. -/
theorem semAt_injective {k k' : Fin 4} {i i' : Fin 8} (h : semAt k i = semAt k' i') : k = k' ∧ i = i' :=
  ⟨by rw [← kindOf_semAt k i, h, kindOf_semAt], by rw [← chunkOf_semAt k i, h, chunkOf_semAt]⟩

/-- Different cells of a device are different semaphores. -/
theorem semOf_injective : Function.Injective semOf := by
  rintro (_ | ⟨k, i⟩) (_ | ⟨k', i'⟩) h
  · rfl
  · cases h
  · cases h
  · obtain ⟨rfl, rfl⟩ := semAt_injective (SemLoc.dma.inj h); rfl

/-- Different names are different cells. -/
theorem cellAt_injective : Function.Injective fun cn : Dev nD × CellName => cellAt cn.1 cn.2 := by
  rintro ⟨c, n⟩ ⟨c', n'⟩ h
  have hc : c = c' := congrArg (fun g : GSem nD τ sig => g.1.1) h
  have hn : n = n' := semOf_injective (congrArg Prod.snd h)
  rw [hc, hn]

/-- Transfer cells agree where device, kind and chunk do. -/
theorem dmaCell_eq_iff {c c' : Dev nD} {k k' : Fin 4} {i i' : Fin 8} :
    dmaCell c k i = dmaCell c' k' i' ↔ c = c' ∧ k = k' ∧ i = i' := by
  constructor
  · intro h
    have := cellAt_injective (a₁ := (c, some (k, i))) (a₂ := (c', some (k', i'))) h
    simp only [Prod.mk.injEq, Option.some.injEq] at this
    exact this
  · rintro ⟨rfl, rfl, rfl⟩; rfl

/-- Barrier cells agree where the devices do. -/
theorem barCell_eq_iff {c c' : Dev nD} : barCell c = barCell c' ↔ c = c' :=
  ⟨fun h => congrArg (fun g : GSem nD τ sig => g.1.1) h, fun h => h ▸ rfl⟩

/-- No transfer cell is a barrier cell. -/
theorem dmaCell_ne_barCell {c c' : Dev nD} {k : Fin 4} {i : Fin 8} : dmaCell c k i ≠ barCell c' :=
  fun h => by cases congrArg Prod.snd h

/-! ### What the cells hand over -/

/-- The result's staging buffer. -/
abbrev outM : Memref sig .tc .vmem S8192x1024 .bf16 := Memref.whole cc0_stg1_0
/-- The argument's staging buffer. -/
abbrev inM : Memref sig .tc .vmem S4096x1024 .bf16 := Memref.whole cc0_stg0_0

set_option backward.proofsInPublic true in
/-- The 256 rows of the result from row `lo` on. -/
abbrev rowsM (o : Fin 2 → ℕ) (h : ∀ a, o a + S256x1024.size a ≤ S8192x1024.size a) : Memref sig .tc .vmem S256x1024 .bf16 :=
  outM.slice (Rect.unit (s := S8192x1024) o S256x1024.size h) (fun _ => rfl)

/-- The units one transfer of a chunk contributes. -/
def units : ℕ := (rowsM ![0, 0] (by decide)).view.dmaCredit

/-- A chunk has units. -/
theorem units_pos : 0 < units := View.dmaCredit_pos _ (by decide)

/-- Device `c` holds the rows `S` of its result, with the contents `f`. -/
def held (c : Dev nD) (S : Finset OutS.Idx) (f : OutS.Idx → Elt F .bf16) : sProp 𝕄 :=
  ((c : Thread nD τ).loc cc0_stg1_0) ↦[S]{fullShare} f

/-- Device `c` holds the rows `S` of its result, with some contents. -/
def heldAny (c : Dev nD) (S : Finset OutS.Idx) : sProp 𝕄 := iprop(∃ f, held c S f)

/-- Rows held can be handed over. -/
instance held_storable (c : Dev nD) (S : Finset OutS.Idx) (f : OutS.Idx → Elt F .bf16) :
    BI.Storable (upEmb : UEmb _ 𝕄) (held c S f) := by unfold held; infer_instance
/-- So can rows of any contents. -/
instance heldAny_storable (c : Dev nD) (S : Finset OutS.Idx) :
    BI.Storable (upEmb : UEmb _ 𝕄) (heldAny (F := F) c S) := by unfold heldAny; infer_instance

/-- The quarter the transfers of a kind move, seen from the device that owns the cell. -/
def quarterOf (c : Dev nD) : Fin 4 → ℕ :=
  ![own c, own (acrossY c), own (acrossY c), own (acrossY (acrossZ c))]

/-- What a barrier unit brings to `c`: from the y neighbour (`false`) its rows where `c`'s own quarter is to land, from
    the z neighbour (`true`) its rows where the quarter `c` passes on is to land. -/
def barPay (c : Dev nD) : Bool → sProp 𝕄
  | false => bigSep Finset.univ fun i => heldAny (acrossY c) (chunk (own c) i)
  | true => bigSep Finset.univ fun i => heldAny (acrossZ c) (chunk (own (acrossY c)) i)

variable (x : Dev nD → InS.Idx → Elt F .bf16)

/-- What a transfer cell hands `c`: the chunk, holding what the gathered array holds there. -/
def dmaPay (c : Dev nD) (k : Fin 4) (i : Fin 8) : sProp 𝕄 := held c (chunk (quarterOf c k) i) (gathered x c)

/-- What a transfer hands over can be handed over. -/
instance dmaPay_storable (c : Dev nD) (k : Fin 4) (i : Fin 8) :
    BI.Storable (upEmb : UEmb _ 𝕄) (dmaPay x c k i) := by unfold dmaPay; infer_instance
/-- What the barrier hands over can be handed over. -/
instance barPay_storable (c : Dev nD) (d : Bool) : BI.Storable (upEmb : UEmb _ 𝕄) (barPay (F := F) c d) := by
  cases d <;> (unfold barPay; infer_instance)

/-- The schedule: one round; a barrier cell has two duties of a unit each, a transfer cell one of a chunk's units. -/
def plan : Rounds.Schedule (GSem nD τ sig) Bool 𝕄 where
  duties g r := if r = 0 then (match g.2 with | .reg _ => Finset.univ | .dma _ => {false}) else ∅
  unitless _ := False
  amount g _ _ := match g.2 with | .reg _ => 1 | .dma _ => units
  payload g _ d := match g.2 with | .reg _ => barPay g.1.1 d | .dma s => dmaPay x g.1.1 (kindOf s) (chunkOf s)
  amount_pos g _ _ _ := by
    rcases g.2 with _ | _
    · exact Nat.one_pos
    · exact units_pos

/-- So can every payload of the plan. -/
instance plan_storable (g : GSem nD τ sig) (r : ℕ) (d : Bool) : BI.Storable (upEmb : UEmb _ 𝕄) ((plan x).payload g r d) := by
  rcases g with ⟨t, _ | s⟩
  · show BI.Storable _ (barPay t.1 d); infer_instance
  · show BI.Storable _ (dmaPay x t.1 (kindOf s) (chunkOf s)); infer_instance

/-- Nothing is due after round 0. -/
theorem plan_later (g : GSem nD τ sig) : ∀ r, 1 ≤ r → (plan x).duties g r = ∅ :=
  fun r hr => if_neg (by omega)

/-- The barrier expects two units. -/
theorem bar_expect (c : Dev nD) : (plan x).expect (barCell c) 0 = 2 := rfl
/-- A transfer cell expects a chunk's units. -/
theorem dma_expect (c : Dev nD) (k : Fin 4) (i : Fin 8) : (plan x).expect (dmaCell c k i) 0 = units := by
  show ∑ d ∈ ({false} : Finset Bool), units = units
  exact Finset.sum_singleton _ _

/-- What a transfer cell hands over. -/
theorem dma_payload (c : Dev nD) (k : Fin 4) (i : Fin 8) (d : Bool) : (plan x).payload (dmaCell c k i) 0 d = dmaPay x c k i := by
  show dmaPay x c (kindOf (semAt k i)) (chunkOf (semAt k i)) = _
  rw [kindOf_semAt, chunkOf_semAt]

/-- All a barrier cell hands over; -/
theorem bar_rest (c : Dev nD) :
    bigSep ((plan x).duties (barCell c) 0 \ ∅) (fun d => (plan x).payload (barCell c) 0 d) = iprop(barPay c false ∗ barPay c true) := by
  rw [Finset.sdiff_empty]
  exact bigSep_univ_eq_bigSepL [false, true] (by decide) (by decide) _

/-- all a transfer cell hands over. -/
theorem dma_rest (c : Dev nD) (k : Fin 4) (i : Fin 8) :
    bigSep ((plan x).duties (dmaCell c k i) 0 \ ∅) (fun d => (plan x).payload (dmaCell c k i) 0 d) = dmaPay x c k i := by
  rw [Finset.sdiff_empty, ← dma_payload x c k i false]
  exact bigSep_singleton

/-! ### What is owed, and the order of waiting -/

/-- The units of `f i` for the chunks `i` from `n` on. -/
def fromOn (f : Fin 8 → CellTallies nD τ sig Unit) (n : ℕ) : CellTallies nD τ sig Unit :=
  ∑ i ∈ Finset.univ.filter (fun i : Fin 8 => n ≤ i.val), f i

/-- The chunks from `i` on are `i` and those after it. -/
theorem filter_step (i : Fin 8) :
    Finset.univ.filter (fun j : Fin 8 => i.val ≤ j.val) = insert i (Finset.univ.filter fun j : Fin 8 => i.val + 1 ≤ j.val) := by
  ext j
  simp only [Finset.mem_filter, Finset.mem_univ, true_and, Finset.mem_insert, Fin.ext_iff]
  omega

/-- Paying chunk `i` leaves the debts after it. -/
theorem fromOn_step (f : Fin 8 → CellTallies nD τ sig Unit) (i : Fin 8) : fromOn f i.val = fromOn f (i.val + 1) + f i := by
  unfold fromOn
  rw [filter_step, Finset.sum_insert (by simp), add_comm]

/-- After the last chunk nothing is owed. -/
theorem fromOn_end (f : Fin 8 → CellTallies nD τ sig Unit) : fromOn f 8 = 0 :=
  Finset.sum_eq_zero fun i hi => absurd (Finset.mem_filter.mp hi).2 (by have := i.isLt; omega)

/-- A debt is that of some chunk. -/
theorem fromOn_pos {f : Fin 8 → CellTallies nD τ sig Unit} {n : ℕ} {g : GSem nD τ sig} {u : Unit} (h : 0 < fromOn f n g u) :
    ∃ i, 0 < f i g u := by
  by_contra hn
  simp only [not_exists, Nat.not_lt, Nat.le_zero] at hn
  unfold fromOn at h
  rw [Finset.sum_apply, Finsupp.finset_sum_apply, Finset.sum_eq_zero fun i _ => hn i] at h
  exact Nat.lt_irrefl 0 h

/-- What `c` owes its y neighbour for chunk `i`; -/
def oweY (c : Dev nD) (i : Fin 8) : CellTallies nD τ sig Unit := tallyAt (dmaCell (acrossY c) 1 i) () units
/-- what `c` owes its z neighbour for chunk `i`. -/
def oweZ (c : Dev nD) (i : Fin 8) : CellTallies nD τ sig Unit := tallyAt (dmaCell (acrossZ c) 3 i) () units

/-- What `c` still owes when it has sent `n` chunks across y and `m` across z; -/
def debt (c : Dev nD) (n m : ℕ) : CellTallies nD τ sig Unit := fromOn (oweY c) n + fromOn (oweZ c) m
/-- and what it owes at launch: one unit to the barrier of each neighbour as well. -/
def debt₀ (c : Dev nD) : CellTallies nD τ sig Unit :=
  debt c 0 0 + tallyAt (barCell (acrossZ c)) () 1 + tallyAt (barCell (acrossY c)) () 1

/-- Sending chunk `i` across y pays its part of the debt. -/
theorem debt_stepY (c : Dev nD) (i : Fin 8) (m : ℕ) :
    debt c i.val m = debt c (i.val + 1) m + tallyAt (dmaCell (acrossY c) 1 i) () units := by
  unfold debt; rw [fromOn_step, add_right_comm]; rfl
/-- So does forwarding it across z. -/
theorem debt_stepZ (c : Dev nD) (n : ℕ) (i : Fin 8) :
    debt c n i.val = debt c n (i.val + 1) + tallyAt (dmaCell (acrossZ c) 3 i) () units := by
  unfold debt; rw [fromOn_step (oweZ c), add_assoc]; rfl
/-- At the end nothing is owed. -/
theorem debt_end (c : Dev nD) : debt c 8 8 = 0 := by unfold debt; rw [fromOn_end, fromOn_end, add_zero]

/-- The levels there are: one for each cell of a device's core. -/
def lvls (g : GSem nD τ sig) : Finset Unit := if g.1.2 = .tc then {()} else ∅
/-- A cell's level: staging and sent cells 0, barrier cells 1, received across y 2, received across z 3. -/
def lvl (g : GSem nD τ sig) (_ : Unit) : ℕ := match g.2 with
  | .reg _ => 1
  | .dma s => if s.val < 10 then 0 else if s.val < 18 then 2 else if s.val < 26 then 0 else 3

/-- Only the TensorCores have levels. -/
theorem lvls_of_ne (g : GSem nD τ sig) (h : g.1.2 ≠ .tc) : lvls g = ∅ := if_neg h
/-- Every semaphore of a TensorCore has a level. -/
theorem mem_lvls (c : Dev nD) (sm : SemLoc sig) (u : Unit) : u ∈ lvls ((c : Thread nD τ), sm) := by
  unfold lvls; rw [if_pos rfl]; exact Finset.mem_singleton_self _

/-- The levels of the transfer cells. -/
theorem lvl_dma (c : Dev nD) (k : Fin 4) (i : Fin 8) : lvl (dmaCell c k i) () = (![0, 2, 0, 3] : Fin 4 → ℕ) k := by
  revert k i; show ∀ k i, lvl (dmaCell 0 k i) () = _; decide

/-- A debt at one cell is owed to that cell. -/
theorem tallyAt_pos {g g' : GSem nD τ sig} {u u' : Unit} {n : ℕ} (h : 0 < (tallyAt g u n : CellTallies nD τ sig Unit) g' u') : g' = g := by
  rw [tallyAt_apply] at h
  by_contra hn
  rw [if_neg fun h' => hn h'.1] at h
  exact Nat.lt_irrefl 0 h

/-- A debt in a sum is a debt in a part. -/
theorem add_pos_cases {A B : CellTallies nD τ sig Unit} {g : GSem nD τ sig} {u : Unit} (h : 0 < (A + B) g u) : 0 < A g u ∨ 0 < B g u := by
  rw [Pi.add_apply, Finsupp.add_apply] at h; omega

/-- What is owed during the exchange is owed to received cells; -/
theorem debt_pos {c : Dev nD} {n m : ℕ} {g : GSem nD τ sig} {u : Unit} (h : 0 < debt c n m g u) :
    (∃ i, g = dmaCell (acrossY c) 1 i ∧ 0 < fromOn (oweY c) n g u) ∨ ∃ i, g = dmaCell (acrossZ c) 3 i := by
  rcases add_pos_cases h with h | h
  · obtain ⟨i, hi⟩ := fromOn_pos h; exact Or.inl ⟨i, tallyAt_pos hi, h⟩
  · obtain ⟨i, hi⟩ := fromOn_pos h; exact Or.inr ⟨i, tallyAt_pos hi⟩

/-- A device may wait for a cell lying below everything it owes. -/
theorem mayWait_below (c : Dev nD) (sm : SemLoc sig) (O : CellTallies nD τ sig Unit) (k : ℕ) (hk : lvl ((c : Thread nD τ), sm) () ≤ k)
    (h : ∀ g u, 0 < O g u → ∃ (d : Dev nD) (s : SemLoc sig), g = ((d : Thread nD τ), s) ∧ k < lvl g ()) :
    (levAts lvls lvl : sProp 𝕄) ⊢ MayWait (c : Thread nD τ) sm () O :=
  MayOwe.of_cut (L := lvls) (lev := lvl) k
    (fun p hp => by rw [Finset.mem_singleton.mp hp]; exact mem_lvls c sm _)
    (fun g u hg => by obtain ⟨d, s, rfl, _⟩ := h g u hg; exact mem_lvls d s u)
    (fun p hp => by rw [Finset.mem_singleton.mp hp]; exact hk)
    (fun g u hg => by obtain ⟨d, s, _, hl⟩ := h g u hg; exact hl)

/-- The barrier wait, before any transfer; -/
theorem mayWait_bar (c : Dev nD) : (levAts lvls lvl : sProp 𝕄) ⊢ MayWait (c : Thread nD τ) (.reg barS) () (debt c 0 0) :=
  mayWait_below c _ _ 1 le_rfl fun g u hg => by
    rcases debt_pos hg with ⟨i, rfl, _⟩ | ⟨i, rfl⟩
    · exact ⟨_, _, rfl, by rw [lvl_dma]; decide⟩
    · exact ⟨_, _, rfl, by rw [lvl_dma]; decide⟩

/-- a wait for a chunk across y, when all are sent across y; -/
theorem mayWait_recvY (c : Dev nD) (i : Fin 8) (m : ℕ) :
    (levAts lvls lvl : sProp 𝕄) ⊢ MayWait (c : Thread nD τ) (.dma (semAt 1 i)) () (debt c 8 m) :=
  mayWait_below c _ _ 2 (by rw [lvl_dma]; decide) fun g u hg => by
    rcases debt_pos hg with ⟨_, _, h⟩ | ⟨i, rfl⟩
    · rw [fromOn_end] at h; exact absurd h (Nat.lt_irrefl 0)
    · exact ⟨_, _, rfl, by rw [lvl_dma]; decide⟩

/-- a wait for a staging cell, at launch. -/
theorem mayWait_staging (c : Dev nD) (s : DmaSem sig) (hs : s.val < 10) :
    (levAts lvls lvl : sProp 𝕄) ⊢ MayWait (c : Thread nD τ) (.dma s) () (debt₀ c) :=
  mayWait_below c _ _ 0 (by show (if s.val < 10 then 0 else _) ≤ 0; rw [if_pos hs]) fun g u hg => by
    rcases add_pos_cases hg with hg | hg
    · rcases add_pos_cases hg with hg | hg
      · rcases debt_pos hg with ⟨i, rfl, _⟩ | ⟨i, rfl⟩
        · exact ⟨_, _, rfl, by rw [lvl_dma]; decide⟩
        · exact ⟨_, _, rfl, by rw [lvl_dma]; decide⟩
      · rw [tallyAt_pos hg]; exact ⟨_, _, rfl, Nat.one_pos⟩
    · rw [tallyAt_pos hg]; exact ⟨_, _, rfl, Nat.one_pos⟩

end Cert.Gather

end

end
-- ==== Proof.Rows.lean ====
/-
Rows of the result's buffer seen through the program's slices: which rows a slice names, and what a store and a
transfer leave there.
-/
module

public import proofs.«01_k».proof.Proof.Protocol
public import proofs.«01_k».proof.Proof.Gen.KernelIdeal.Skeleton
public import Idealize.ShloMosaic.Lib.Pipeline.Value

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI

variable {F : FTy → Type} [FloatOps F]

/-! ### Which rows -/

/-- Whole rows of the result from row `lo` on, `len` of them, are the elements of the unit rectangle there. -/
theorem slice_rows {o sz : Fin 2 → ℕ} (h : ∀ a, o a + sz a ≤ S8192x1024.size a) {lo len : ℕ} (ho : o = ![lo, 0]) (hsz : sz = ![len, 1024]) :
    ((View.whole cc0_stg1_0 : View sig .tc _ _ _).slice (Rect.unit (s := S8192x1024) o sz h)).set = band lo len := by
  subst ho hsz
  rw [View.set_slice_whole]
  ext p
  have hp : (p 1).val < 1024 := (p 1).isLt
  rw [Rect.mem_set_unit, mem_band]
  constructor
  · intro H; exact H (0 : Fin 2)
  · intro H a
    match a with
    | ⟨0, _⟩ => exact H
    | ⟨1, _⟩ => exact ⟨Nat.zero_le _, by show (p 1).val < 0 + 1024; omega⟩

/-- The rows of a chunk, as a memref's elements. -/
theorem rowsM_set {o : Fin 2 → ℕ} (h : ∀ a, o a + S256x1024.size a ≤ S8192x1024.size a) {lo : ℕ} (ho : o = ![lo, 0]) :
    (rowsM o h).view.set = band lo 256 := slice_rows h ho rfl

/-! ### What a store leaves -/

/-- Storing, at rows `lo` on of the result, rows `lo'` on of the block leaves the gathered array there, when those rows
    are rows of the device's own half. -/
theorem stored_rows (x : Dev nD → InS.Idx → Elt F .bf16) (c : Dev nD) {o o' sz : Fin 2 → ℕ}
    (h : ∀ a, o a + sz a ≤ S8192x1024.size a) (h' : ∀ a, o' a + sz a ≤ S4096x1024.size a) {lo lo' len : ℕ}
    (ho : o = ![lo, 0]) (ho' : o' = ![lo', 0]) (hsz : sz = ![len, 1024]) (hlo : ∀ r, r < len → (lo + r) % 4096 = lo' + r)
    (hq : ∀ r, lo ≤ r → r < lo + len → r / 2048 = own c ∨ r / 2048 = own (acrossZ c))
    (f : OutS.Idx → Elt F .bf16) (w : (Rect.unit (s := S4096x1024) o' sz h').shape.Idx → Elt F .bf16)
    (hw : w = inM.view.readAt (Elt F) (Rect.unit (s := S4096x1024) o' sz h').toLoadRect (x c)) :
    ∀ p ∈ band lo len,
      ((View.whole cc0_stg1_0 : View sig .tc _ _ _).slice (Rect.unit (s := S8192x1024) o sz h)).write (Elt F) f w Finset.univ p = gathered x c p := by
  intro p hp
  rw [← slice_rows h ho hsz] at hp
  obtain ⟨j, -, rfl⟩ := Finset.mem_map.mp hp
  rw [slice_rows h ho hsz, mem_band] at hp
  rw [View.write_emb_of_mem _ _ (Finset.mem_univ j), hw]
  subst ho ho' hsz
  have e0 := ValueKit.view_emb_slice_whole_unit_val (cc0_stg1_0 : Ref sig .tc) _ _ h j (0 : Fin 2)
  have e1 := ValueKit.view_emb_slice_whole_unit_val (cc0_stg1_0 : Ref sig .tc) _ _ h j (1 : Fin 2)
  have d0 := ValueKit.view_emb_slice_whole_unit_val (cc0_stg0_0 : Ref sig .tc) _ _ h' j (0 : Fin 2)
  have d1 := ValueKit.view_emb_slice_whole_unit_val (cc0_stg0_0 : Ref sig .tc) _ _ h' j (1 : Fin 2)
  refine (gathered_block x c (hq _ hp.1 hp.2) _ (d0.trans ?_) (d1.trans e1.symm)).symm
  have hj : (j 0).val < len := (j 0).isLt
  rw [e0]; exact (hlo _ hj).symm

/-! ### What a transfer leaves -/

/-- A transfer between the same rows of two devices leaves there what was read there. -/
theorem landed_rows {o : Fin 2 → ℕ} (h : ∀ a, o a + S256x1024.size a ≤ S8192x1024.size a) {lo : ℕ} (ho : o = ![lo, 0])
    (fd fs : OutS.Idx → Elt F .bf16) :
    ∀ p ∈ band lo 256, (rowsM o h).view.write (Elt F) fd ((rowsM o h).view.read (Elt F) fs) Finset.univ p = fs p := by
  intro p hp
  rw [← rowsM_set h ho] at hp
  obtain ⟨j, -, rfl⟩ := Finset.mem_map.mp hp
  rw [View.write_emb_of_mem _ _ (Finset.mem_univ j)]
  rfl

/-! ### The program's offsets -/

/-- A chunk's rows in the block; -/
theorem off1_at (c : Dev nD) (i : Fin 8) : k0_off1 c (BitVec.ofNat 32 (256 * i.val)) = ![2048 * (c.val % 2) + 256 * i.val, 0] := k0_off1_eq c i
/-- the same rows in the result, to store; -/
theorem off2_at (c : Dev nD) (i : Fin 8) : k0_off2 c (BitVec.ofNat 32 (256 * i.val)) = ![2048 * own c + 256 * i.val, 0] := by
  rw [k0_off2_eq]; unfold own; congr 1; omega
/-- to send across y; -/
theorem off3_at (c : Dev nD) (i : Fin 8) : k0_off3 c (BitVec.ofNat 32 (256 * i.val)) = ![2048 * own c + 256 * i.val, 0] := by
  rw [k0_off3_eq]; unfold own; congr 1; omega
/-- the other half of the block, in the result; -/
theorem off5_at (c : Dev nD) : k0_off5 c = ![2048 * own (acrossZ c), 0] := by
  rw [k0_off5_eq]; revert c; decide
/-- a chunk received across y; -/
theorem off6_at (c : Dev nD) (i : Fin 8) : k0_off6 c (BitVec.ofNat 32 (256 * i.val)) = ![2048 * own (acrossY c) + 256 * i.val, 0] := by
  rw [k0_off6_eq]
  have : own (acrossY c) = 2 * (1 - c.val / 2 % 2) + c.val % 2 := by revert c; decide
  rw [this]; congr 1; omega
/-- a chunk received across z. -/
theorem off7_at (c : Dev nD) (i : Fin 8) : k0_off7 c (BitVec.ofNat 32 (256 * i.val)) = ![2048 * own (acrossY (acrossZ c)) + 256 * i.val, 0] := by
  rw [k0_off7_eq]
  have : own (acrossY (acrossZ c)) = 3 - (2 * (c.val / 2 % 2) + c.val % 2) := by revert c; decide
  rw [this]; congr 1; omega

end Cert.Gather

end

end
-- ==== Proof.Steps.lean ====
/-
One rule for each kind of operation of the program, stated for any chunk: the state of the exchange before it turns
into the state after it.
-/
module

public import proofs.«01_k».proof.Proof.Rows

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ GU ℕ

/-- The body calls nothing, so no termination measure is needed. -/
abbrev noVar : Variants := Variants.none

/-- The weakest precondition of a piece of the body on device `c`. -/
abbrev run (c : Dev nD) {α : Type} (p : Prog (TpuEff nD τ sig (Elt F) Λ₀ .tc) α) (Q : α → sProp 𝕄) : sProp 𝕄 :=
  wp frame (wpE (defs₀ (F := F)) noVar (c : Thread nD τ) none) Set.univ p Q

variable (x : Dev nD → InS.Idx → Elt F .bf16) (K : Dev nD × CellName → ℕ) (c : Dev nD)

/-! ### What everyone knows -/

/-- Every cell follows the plan and is in its first round, and the levels are as given. -/
def env : sProp 𝕄 :=
  iprop((bigSep Finset.univ fun cn : Dev nD × CellName => cellInv EX (plan x) (K cn) (cellAt cn.1 cn.2))
    ∗ (bigSep Finset.univ fun cn : Dev nD × CellName => reached EX (cellAt cn.1 cn.2) 0) ∗ levAts lvls lvl)

/-- What everyone knows can be used again and again. -/
instance env_persistent : BI.Persistent (env x K) := by unfold env; infer_instance

/-- Everyone knows the invariant of each cell. -/
theorem env_inv (d : Dev nD) (n : CellName) : env x K ⊢ cellInv EX (plan x) (K (d, n)) (cellAt d n) := by
  have h : (bigSep Finset.univ fun cn : Dev nD × CellName => (cellInv EX (plan x) (K cn) (cellAt cn.1 cn.2) : sProp 𝕄))
      ⊢ cellInv EX (plan x) (K (d, n)) (cellAt d n) := bigSep_elim (Finset.mem_univ (d, n))
  unfold env
  iintro ⟨H, -, -⟩
  iapply h
  iexact H

/-- Everyone knows that each cell is at round 0. -/
theorem env_reached (d : Dev nD) (n : CellName) : env x K ⊢ reached EX (cellAt d n) 0 := by
  have h : (bigSep Finset.univ fun cn : Dev nD × CellName => (reached EX (cellAt cn.1 cn.2) 0 : sProp 𝕄))
      ⊢ reached EX (cellAt d n) 0 := bigSep_elim (Finset.mem_univ (d, n))
  unfold env
  iintro ⟨-, H, -⟩
  iapply h
  iexact H

/-- Everyone knows the levels. -/
theorem env_levels : env x K ⊢ levAts lvls lvl := by
  unfold env; iintro ⟨-, -, H⟩; iexact H

/-- What device `c` owes, whatever it has waited for. -/
def owing (O : CellTallies nD τ sig Unit) : sProp 𝕄 := iprop(∃ W, owes (c : Thread nD τ) O W)

/-- Device `c` holds its block of the argument in its buffer. -/
def block : sProp 𝕄 := ((c : Thread nD τ).loc cc0_stg0_0) ↦{fullShare} (x c)

/-! ### One operation at a time -/

/-- A wait for a transfer cell brings its chunk, and the cell is done with. -/
theorem wait_chunk (k : Fin 4) (i : Fin 8) {O : CellTallies nD τ sig Unit}
    (hO : (levAts lvls lvl : sProp 𝕄) ⊢ MayWait (c : Thread nD τ) (.dma (semAt k i)) () O)
    {s : DmaSem sig} (hs : s = semAt k i) {o : Fin 2 → ℕ} {h : ∀ a, o a + S256x1024.size a ≤ S8192x1024.size a}
    {src : Memref sig .tc .vmem S256x1024 .bf16} {hsrc : src.view.WordExact} {hdst : (rowsM o h).view.WordExact}
    {α : Type} {Q : α → sProp 𝕄} {p : PUnit → Prog (TpuEff nD τ sig (Elt F) Λ₀ .tc) α} :
    iprop(env x K ∗ owing c O ∗ atPos EX (dmaCell c k i) 0 ∅ 0 ∗ cred (tallyAt (dmaCell c k i) () units))
      ⊢ iprop((owing c O ∗ semVal (dmaCell c k i) 0 ∗ dmaPay x c k i -∗ run c (p ⟨⟩) Q)
          -∗ run c (.op (.waitDma2 s src (rowsM o h) hsrc hdst) p) Q) := by
  subst hs
  unfold owing
  iintro ⟨#HE, ⟨%W, HO⟩, Hat, Hc⟩
  iintro Hk
  ihave #HI := (env_inv x K c (some (k, i))) $$ HE
  ihave #HL := (env_levels x K) $$ HE
  iapply (Rounds.wp_wait_rest_token noVar EX (plan x) (c : Thread nD τ) none (κ := K (c, some (k, i))) (sm := .dma (semAt k i))
      (wpE_waitDma2_eq noVar (c : Thread nD τ) none Set.univ) (Set.mem_univ _) () (O := O) (W := W) (R := 0) (m := 0) (T := ∅)
      (by rw [Nat.zero_add]; exact (dma_expect x c k i).symm)) $$ [Hc HO Hat]
  · isplitr; · iexact HI
    isplitl [Hc]; · iexact Hc
    isplitl [HO]; · iexact HO
    isplitr; · iapply hO; iexact HL
    iexact Hat
  iintro ⟨HO, Hat, -, Hp⟩
  ihave Hp := (Entails.of_eq (dma_rest x c k i)) $$ Hp
  imod (Rounds.cell_close EX (plan x) (Set.mem_univ (K (c, some (k, i)))) (fun h => h) (R := 0 + 1) (plan_later x (dmaCell c k i))) $$ [Hat] with Hz
  · isplitr; · iexact HI
    iexact Hat
  iapply Hk
  isplitl [HO]; · iexists _; iexact HO
  isplitl [Hz] <;> iassumption

/-- Sending a chunk's rows to a neighbour: the sent cell's credit is kept for the wait. -/
theorem send_chunk (n d : Dev nD) (hn : n = d) (k k' : Fin 4) (i : Fin 8)
    {sS sR : DmaSem sig} (hS : sS = semAt k i) (hR : sR = semAt k' i)
    {o : Fin 2 → ℕ} {h : ∀ a, o a + S256x1024.size a ≤ S8192x1024.size a} (ho : o = ![2048 * quarterOf c k + 256 * i.val, 0])
    (hqq : quarterOf d k' = quarterOf c k)
    (hg : ∀ q, q ∈ chunk (quarterOf c k) i → gathered x d q = gathered x c q)
    {hsc : (rowsM o h : Memref sig (Dev.tc n : Thread nD τ).2.kind .vmem S256x1024 .bf16).view.ref.isScScratch = false}
    {hsrc : (rowsM o h).view.WordExact} {hdst : (rowsM o h).view.WordExact}
    {hsem : DmaTarget.Typed .vmem (.dma sR) (.remote (Dev.tc n : Thread nD τ) (rowsM o h : Memref sig .tc .vmem S256x1024 .bf16) (.dma sS) hsc)}
    {O₀ O : CellTallies nD τ sig Unit} (hO : O₀ = O + tallyAt (dmaCell d k' i) () units)
    {α : Type} {Q : α → sProp 𝕄} {p : PUnit → Prog (TpuEff nD τ sig (Elt F) Λ₀ .tc) α} :
    iprop(env x K ∗ owing c O₀ ∗ held c (chunk (quarterOf c k) i) (gathered x c) ∗ heldAny d (chunk (quarterOf c k) i)
        ∗ dutyTok EX (dmaCell c k i) 0 false ∗ dutyTok EX (dmaCell d k' i) 0 false)
      ⊢ iprop((owing c O ∗ cred (tallyAt (dmaCell c k i) () units) -∗ run c (p ⟨⟩) Q)
          -∗ run c (.op (.enqueueDma (rowsM o h) (.remote (Dev.tc n : Thread nD τ) (rowsM o h) (.dma sS) hsc) (.dma sR) hsrc hdst hsem) p) Q) := by
  subst hn hS hR
  have hset : (rowsM o h).view.set = chunk (quarterOf c k) i := rowsM_set h ho
  unfold owing heldAny
  iintro ⟨#HE, ⟨%W, HO⟩, Hs, ⟨%fd, Hd⟩, HtS, HtR⟩
  iintro Hk
  iapply (Rounds.wp_send_pointsTo noVar EX (plan x) (c : Thread nD τ) none (c' := (n : Thread nD τ)) (src := rowsM o h) (dst := rowsM o h)
    (κ₁ := K (c, some (k, i))) (κ₂ := K (n, some (k', i))) (sS := .dma (semAt k i)) (sem := .dma (semAt k' i))
    (r₁ := 0) (r₂ := 0) (d₁ := false) (d₂ := false) (fs := gathered x c) (fd := fd) (q := fullShare)
    (Finset.mem_singleton_self _) (Finset.mem_singleton_self _) () () units rfl rfl rfl O hO (W := W)
    (by
      rw [dma_payload]; unfold dmaPay held; rw [hset])
    (by
      rw [dma_payload]; unfold dmaPay held; rw [hset, hqq]
      refine Entails.of_eq (pointsTo_congr fun q hq => ?_)
      rw [hg q hq]; exact landed_rows h ho fd (gathered x c) q hq)) $$ [HO Hs Hd HtS HtR]
  · isplitr; · iapply (env_inv x K c (some (k, i))); iexact HE
    isplitr; · iapply (env_inv x K n (some (k', i))); iexact HE
    isplitl [Hs]; · rw [hset]; unfold held; iexact Hs
    isplitl [Hd]; · rw [hset]; unfold held; iexact Hd
    isplitl [HO]; · iexact HO
    isplitl [HtS]; · iexact HtS
    isplitr; · iapply (env_reached x K c (some (k, i))); iexact HE
    isplitl [HtR]; · iexact HtR
    iapply (env_reached x K n (some (k', i))); iexact HE
  iintro ⟨Hc, HO⟩
  iapply Hk
  isplitl [HO]; · iexists _; iexact HO
  iexact Hc

/-- Reading rows of the block. -/
theorem load_block {r : LoadRect S4096x1024} {hl : inM.view.LoadsAt r} {α : Type} {Q : α → sProp 𝕄}
    {p : (r.shape.Idx → Elt F .bf16) → Prog (TpuEff nD τ sig (Elt F) Λ₀ .tc) α} :
    block x c ⊢ iprop((block x c -∗ run c (p (inM.view.readAt (Elt F) r (x c))) Q) -∗ run c (.op (.load inM r hl) p) Q) := by
  unfold block
  exact wp_load noVar (c : Thread nD τ) none Set.univ (m := inM) (Finset.subset_univ _)

/-- Reading rows of the result, whatever they hold. -/
theorem load_rows {o sz : Fin 2 → ℕ} {h : ∀ a, o a + sz a ≤ S8192x1024.size a} {lo len : ℕ} (ho : o = ![lo, 0]) (hsz : sz = ![len, 1024])
    {hl : outM.view.LoadsAt (Rect.unit (s := S8192x1024) o sz h).toLoadRect} {α : Type} {Q : α → sProp 𝕄}
    {p : ((Rect.unit (s := S8192x1024) o sz h).toLoadRect.shape.Idx → Elt F .bf16) → Prog (TpuEff nD τ sig (Elt F) Λ₀ .tc) α} :
    heldAny c (band lo len)
      ⊢ iprop((∀ v, heldAny c (band lo len) -∗ run c (p v) Q)
          -∗ run c (.op (.load outM (Rect.unit (s := S8192x1024) o sz h).toLoadRect hl) p) Q) := by
  unfold heldAny held
  iintro ⟨%f, H⟩ Hk
  iapply (wp_load_rect noVar (c : Thread nD τ) none Set.univ (m := outM) (r := Rect.unit (s := S8192x1024) o sz h)
    (S := band lo len) (q := fullShare) (f := f) (by rw [show (outM.access _).set = _ from slice_rows h ho hsz])) $$ H
  iintro H
  iapply Hk
  iexists f; iexact H

/-- Storing rows of the block as rows of the device's own half of the result. -/
theorem store_rows {o o' sz : Fin 2 → ℕ}
    {h : ∀ a, o a + sz a ≤ S8192x1024.size a} (h' : ∀ a, o' a + sz a ≤ S4096x1024.size a) {lo lo' len : ℕ}
    (ho : o = ![lo, 0]) (ho' : o' = ![lo', 0]) (hsz : sz = ![len, 1024]) (hlo : ∀ r, r < len → (lo + r) % 4096 = lo' + r)
    (hq : ∀ r, lo ≤ r → r < lo + len → r / 2048 = own c ∨ r / 2048 = own (acrossZ c))
    {w : (Rect.unit (s := S8192x1024) o sz h).shape.Idx → Elt F .bf16}
    (hw : w = inM.view.readAt (Elt F) (Rect.unit (s := S4096x1024) o' sz h').toLoadRect (x c))
    {hx : (outM.access (Rect.unit (s := S8192x1024) o sz h)).Stores Finset.univ}
    {hm : (Finset.univ : Finset (Rect.unit (s := S8192x1024) o sz h).shape.Idx) = Finset.univ ∨ ∀ a, (Rect.unit (s := S8192x1024) o sz h).stride a = 1}
    {α : Type} {Q : α → sProp 𝕄} {p : PUnit → Prog (TpuEff nD τ sig (Elt F) Λ₀ .tc) α} :
    heldAny c (band lo len)
      ⊢ iprop((held c (band lo len) (gathered x c) -∗ run c (p ⟨⟩) Q)
          -∗ run c (.op (.store outM (Rect.unit (s := S8192x1024) o sz h) w Finset.univ hx hm) p) Q) := by
  unfold heldAny held
  iintro ⟨%f, H⟩ Hk
  iapply (wp_store noVar (c : Thread nD τ) none Set.univ (m := outM) (r := Rect.unit (s := S8192x1024) o sz h) (Mk := Finset.univ)
    (S := band lo len) (f := f) (by rw [← show (outM.access _).set = _ from slice_rows h ho hsz]; exact Finset.Subset.refl _)) $$ H
  iintro H
  iapply Hk
  iapply (Entails.of_eq (pointsTo_congr (stored_rows x c h h' ho ho' hsz hlo hq f w hw)))
  iexact H

end Cert.Gather

end

end
-- ==== Proof.Phases.lean ====
/-
The four phases of the body after the barrier, each counted by chunk: filling and sending across y; receiving across y
and sending on across z; receiving across z; waiting for what was sent.
-/
module

public import proofs.«01_k».proof.Proof.Steps

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ GU ℕ

/-! ### Chunks in three stages -/

/-- The eight chunks, the first `m` of them past both operations of a phase (`C`), those up to `n` past the first (`B`),
    the rest before it (`A`). -/
def stages (n m : ℕ) (A B C : Fin 8 → sProp 𝕄) : sProp 𝕄 :=
  bigSep Finset.univ fun i : Fin 8 => if i.val < m then C i else if i.val < n then B i else A i

/-- Exchanging one member of a family. -/
theorem bigSep_exchange (Φ Ψ : Fin 8 → sProp 𝕄) (i : Fin 8) (h : ∀ j, j ≠ i → Φ j = Ψ j) :
    bigSep Finset.univ Φ ⊢ iprop(Φ i ∗ (Ψ i -∗ bigSep Finset.univ Ψ)) := by
  have hΦ : bigSep Finset.univ Φ = iprop(Φ i ∗ bigSep (Finset.univ.erase i) Φ) := BI.bigSep_erase (Finset.mem_univ i)
  have hΨ : bigSep Finset.univ Ψ = iprop(Ψ i ∗ bigSep (Finset.univ.erase i) Ψ) := BI.bigSep_erase (Finset.mem_univ i)
  have hr : bigSep (Finset.univ.erase i) Φ = bigSep (Finset.univ.erase i) Ψ :=
    bigSep_congr fun j hj => h j (Finset.ne_of_mem_erase hj)
  rw [hΦ, hΨ, hr]
  iintro ⟨H1, H2⟩
  isplitl [H1]; · iexact H1
  iintro H3
  isplitl [H3] <;> iassumption

/-- Chunk `i` through the first operation; -/
theorem stages_first (i : Fin 8) (A B C : Fin 8 → sProp 𝕄) (m : ℕ) (hm : m ≤ i.val) :
    stages i.val m A B C ⊢ iprop(A i ∗ (B i -∗ stages (i.val + 1) m A B C)) := by
  have h := bigSep_exchange (fun j : Fin 8 => if j.val < m then C j else if j.val < i.val then B j else A j)
    (fun j : Fin 8 => if j.val < m then C j else if j.val < i.val + 1 then B j else A j) i (fun j hj => by
      have hj' : j.val ≠ i.val := fun e => hj (Fin.ext e)
      by_cases h1 : j.val < m
      · rw [if_pos h1, if_pos h1]
      · rw [if_neg h1, if_neg h1]
        by_cases h2 : j.val < i.val
        · rw [if_pos h2, if_pos (by omega)]
        · rw [if_neg h2, if_neg (by omega)])
  rw [if_neg (by omega), if_neg (by omega), if_neg (by omega), if_pos (by omega)] at h
  exact h

/-- chunk `i` through the second. -/
theorem stages_second (i : Fin 8) (A B C : Fin 8 → sProp 𝕄) (n : ℕ) (hn : i.val < n) :
    stages n i.val A B C ⊢ iprop(B i ∗ (C i -∗ stages n (i.val + 1) A B C)) := by
  have h := bigSep_exchange (fun j : Fin 8 => if j.val < i.val then C j else if j.val < n then B j else A j)
    (fun j : Fin 8 => if j.val < i.val + 1 then C j else if j.val < n then B j else A j) i (fun j hj => by
      have hj' : j.val ≠ i.val := fun e => hj (Fin.ext e)
      by_cases h1 : j.val < i.val
      · rw [if_pos h1, if_pos (by omega)]
      · rw [if_neg h1, if_neg (show ¬ j.val < i.val + 1 by omega)])
  rw [if_neg (by omega), if_pos (by omega), if_pos (by omega)] at h
  exact h

/-- At the start every chunk is at the first stage. -/
theorem stages_begin (A B C : Fin 8 → sProp 𝕄) : stages 0 0 A B C = bigSep Finset.univ A :=
  bigSep_congr fun i _ => by rw [if_neg (Nat.not_lt_zero _), if_neg (Nat.not_lt_zero _)]
/-- At the end every chunk is at the last stage. -/
theorem stages_end (A B C : Fin 8 → sProp 𝕄) : stages 8 8 A B C = bigSep Finset.univ C :=
  bigSep_congr fun i _ => by rw [if_pos i.isLt]
/-- With the second counter at zero every chunk is at the middle stage. -/
theorem stages_end' (A B C : Fin 8 → sProp 𝕄) : stages 8 0 A B C = bigSep Finset.univ B :=
  bigSep_congr fun i _ => by rw [if_neg (Nat.not_lt_zero _), if_pos i.isLt]

variable (x : Dev nD → InS.Idx → Elt F .bf16) (K : Dev nD × CellName → ℕ) (c : Dev nD)

/-! ### The phases' states -/

/-- A cell to be waited for: its position and its credit. -/
def pending (k : Fin 4) (i : Fin 8) : sProp 𝕄 :=
  iprop(atPos EX (dmaCell c k i) 0 ∅ 0 ∗ cred (tallyAt (dmaCell c k i) () units))
/-- A cell waited for: closed, with the chunk it brought. -/
def arrived (k : Fin 4) (i : Fin 8) : sProp 𝕄 := iprop(semVal (dmaCell c k i) 0 ∗ dmaPay x c k i)

/-- What sending chunk `i` across y takes besides the chunk: the neighbour's rows and the two duties. -/
def tokY (i : Fin 8) : sProp 𝕄 :=
  iprop(heldAny (acrossY c) (chunk (own c) i) ∗ dutyTok EX (dmaCell c 0 i) 0 false ∗ dutyTok EX (dmaCell (acrossY c) 1 i) 0 false)
/-- What sending chunk `i` on across z takes besides the chunk. -/
def tokZ (i : Fin 8) : sProp 𝕄 :=
  iprop(heldAny (acrossZ c) (chunk (own (acrossY c)) i) ∗ dutyTok EX (dmaCell c 2 i) 0 false ∗ dutyTok EX (dmaCell (acrossZ c) 3 i) 0 false)

/-- A chunk of the device's quarter before its store: rows of any contents, and the duties of its transfer. -/
def rawY (i : Fin 8) : sProp 𝕄 := iprop(heldAny c (chunk (own c) i) ∗ tokY c i)
/-- The chunk stored, and not yet sent. -/
def readyY (i : Fin 8) : sProp 𝕄 := iprop(held c (chunk (own c) i) (gathered x c) ∗ tokY c i)
/-- The chunk on its way across y: the credit at the send cell is left. -/
def sentY (i : Fin 8) : sProp 𝕄 := cred (tallyAt (dmaCell c 0 i) () units)

/-- A chunk of the y neighbour's quarter still to come, and the duties of its forwarding. -/
def waitY (i : Fin 8) : sProp 𝕄 := iprop(pending c 1 i ∗ tokZ c i)
/-- The chunk has come and is not yet forwarded. -/
def passZ (i : Fin 8) : sProp 𝕄 := iprop(arrived x c 1 i ∗ tokZ c i)
/-- The chunk on its way across z. -/
def sentZ (i : Fin 8) : sProp 𝕄 := iprop(semVal (dmaCell c 1 i) 0 ∗ cred (tallyAt (dmaCell c 2 i) () units))

/-- Both sends of a chunk's number still to be waited for. -/
def bothOut (i : Fin 8) : sProp 𝕄 := iprop(pending c 0 i ∗ pending c 2 i)
/-- The send across y is back. -/
def oneOut (i : Fin 8) : sProp 𝕄 := iprop(arrived x c 0 i ∗ pending c 2 i)
/-- Both sends are back. -/
def noneOut (i : Fin 8) : sProp 𝕄 := iprop(arrived x c 0 i ∗ arrived x c 2 i)

/-- Filling (`n` chunks stored) and sending (`m` chunks sent) across y. -/
def phase1 (R : sProp 𝕄) (n m : ℕ) : sProp 𝕄 :=
  iprop(env x K ∗ block x c ∗ owing c (debt c m 0) ∗ stages n m (rawY c) (readyY x c) (sentY c) ∗ R)
/-- Receiving (`n` chunks) across y and sending them on (`m` chunks) across z. -/
def phase2 (R : sProp 𝕄) (n m : ℕ) : sProp 𝕄 :=
  iprop(env x K ∗ owing c (debt c 8 m) ∗ stages n m (waitY c) (passZ x c) (sentZ c) ∗ R)
/-- Receiving (`n` chunks) across z. -/
def phase3 (R : sProp 𝕄) (n : ℕ) : sProp 𝕄 :=
  iprop(env x K ∗ owing c 0 ∗ stages n 0 (pending c 3) (arrived x c 3) (arrived x c 3) ∗ R)
/-- Waiting for what was sent across y (`n` chunks) and across z (`m` chunks). -/
def phase4 (R : sProp 𝕄) (n m : ℕ) : sProp 𝕄 :=
  iprop(env x K ∗ owing c 0 ∗ stages n m (bothOut c) (oneOut x c) (noneOut x c) ∗ R)

/-! ### Phase 1 -/

section Phase1

/-- Loading from the block changes nothing. -/
theorem fill_load {R : sProp 𝕄} {n m : ℕ} {r : LoadRect S4096x1024} {hl : inM.view.LoadsAt r} {α : Type} {Q : α → sProp 𝕄}
    {p : (r.shape.Idx → Elt F .bf16) → Prog (TpuEff nD τ sig (Elt F) Λ₀ .tc) α} :
    phase1 x K c R n m
      ⊢ iprop((phase1 x K c R n m -∗ run c (p (inM.view.readAt (Elt F) r (x c))) Q) -∗ run c (.op (.load inM r hl) p) Q) := by
  unfold phase1
  iintro ⟨#HE, HB, HO, HS, HR⟩ Hk
  iapply (load_block x c) $$ HB
  iintro HB
  iapply Hk
  isplitr; · iexact HE
  isplitl [HB]; · iexact HB
  isplitl [HO]; · iexact HO
  isplitl [HS] <;> iassumption

/-- Nor does loading rows of the result. -/
theorem fill_peek {R : sProp 𝕄} (i : Fin 8) (j : ℕ) (hj : i.val = j) {o : Fin 2 → ℕ} {h : ∀ a, o a + S256x1024.size a ≤ S8192x1024.size a} (ho : o = ![2048 * own c + 256 * i.val, 0])
    {hl : outM.view.LoadsAt (Rect.unit (s := S8192x1024) o S256x1024.size h).toLoadRect} {α : Type} {Q : α → sProp 𝕄}
    {p : ((Rect.unit (s := S8192x1024) o S256x1024.size h).toLoadRect.shape.Idx → Elt F .bf16) → Prog (TpuEff nD τ sig (Elt F) Λ₀ .tc) α} :
    phase1 x K c R j j
      ⊢ iprop((∀ v, phase1 x K c R j j -∗ run c (p v) Q)
          -∗ run c (.op (.load outM (Rect.unit (s := S8192x1024) o S256x1024.size h).toLoadRect hl) p) Q) := by
  subst hj
  have hb : stages i.val i.val (rawY c) (readyY x c) (sentY c) ⊢ iprop(rawY c i ∗ (rawY c i -∗ stages i.val i.val (rawY c) (readyY x c) (sentY c))) := by
    have h := bigSep_exchange (fun j : Fin 8 => if j.val < i.val then sentY c j else if j.val < i.val then readyY x c j else rawY c j) _ i (fun _ _ => rfl)
    rw [if_neg (by omega), if_neg (by omega)] at h
    exact h
  unfold phase1
  iintro ⟨#HE, HB, HO, HS, HR⟩ Hk
  ihave HS := hb $$ HS
  unfold rawY
  icases HS with ⟨⟨HA, HT⟩, HS⟩
  rw [show chunk (own c) i = band (2048 * own c + 256 * i.val) 256 from rfl]
  iapply (load_rows c (lo := 2048 * own c + 256 * i.val) (len := 256) ho rfl) $$ HA
  iintro %v HA
  iapply Hk
  isplitr; · iexact HE
  isplitl [HB]; · iexact HB
  isplitl [HO]; · iexact HO
  isplitr [HR]
  · iapply HS; isplitl [HA] <;> iassumption
  · iexact HR

/-- Storing chunk `i` of the block puts it in place. -/
theorem fill_store {R : sProp 𝕄} (i : Fin 8) (j : ℕ) (hj : i.val = j) {o o' : Fin 2 → ℕ} {h : ∀ a, o a + S256x1024.size a ≤ S8192x1024.size a}
    (ho : o = ![2048 * own c + 256 * i.val, 0]) (h' : ∀ a, o' a + S256x1024.size a ≤ S4096x1024.size a) (ho' : o' = ![2048 * (c.val % 2) + 256 * i.val, 0])
    {w : (Rect.unit (s := S8192x1024) o S256x1024.size h).shape.Idx → Elt F .bf16}
    (hw : w = inM.view.readAt (Elt F) (Rect.unit (s := S4096x1024) o' S256x1024.size h').toLoadRect (x c))
    {hx : (outM.access (Rect.unit (s := S8192x1024) o S256x1024.size h)).Stores Finset.univ}
    {hm : (Finset.univ : Finset (Rect.unit (s := S8192x1024) o S256x1024.size h).shape.Idx) = Finset.univ ∨ ∀ a, (Rect.unit (s := S8192x1024) o S256x1024.size h).stride a = 1}
    {α : Type} {Q : α → sProp 𝕄} {p : PUnit → Prog (TpuEff nD τ sig (Elt F) Λ₀ .tc) α} :
    phase1 x K c R j j
      ⊢ iprop((phase1 x K c R (j + 1) j -∗ run c (p ⟨⟩) Q)
          -∗ run c (.op (.store outM (Rect.unit (s := S8192x1024) o S256x1024.size h) w Finset.univ hx hm) p) Q) := by
  subst hj
  have hi := i.isLt
  unfold phase1
  iintro ⟨#HE, HB, HO, HS, HR⟩ Hk
  ihave HS := (stages_first i (rawY c) (readyY x c) (sentY c) i.val le_rfl) $$ HS
  unfold rawY readyY
  icases HS with ⟨⟨HA, HT⟩, HS⟩
  rw [show chunk (own c) i = band (2048 * own c + 256 * i.val) 256 from rfl]
  iapply (store_rows x c h' (lo := 2048 * own c + 256 * i.val) (lo' := 2048 * (c.val % 2) + 256 * i.val) (len := 256) ho ho' rfl
    (fun r hr => by unfold own; omega) (fun r h1 h2 => Or.inl (by omega)) hw) $$ HA
  iintro HA
  iapply Hk
  isplitr; · iexact HE
  isplitl [HB]; · iexact HB
  isplitl [HO]; · iexact HO
  isplitr [HR]
  · iapply HS; isplitl [HA]
    · iexact HA
    · iexact HT
  · iexact HR

/-- Sending chunk `i` across y hands its rows over and pays the debt. -/
theorem fill_send {R : sProp 𝕄} (i : Fin 8) (j : ℕ) (hj : i.val = j) {n : Dev nD} (hn : n = acrossY c) {sS sR : DmaSem sig} (hS : sS = semAt 0 i) (hR : sR = semAt 1 i)
    {o : Fin 2 → ℕ} {h : ∀ a, o a + S256x1024.size a ≤ S8192x1024.size a} (ho : o = ![2048 * own c + 256 * i.val, 0])
    {hsc : (rowsM o h : Memref sig (Dev.tc n : Thread nD τ).2.kind .vmem S256x1024 .bf16).view.ref.isScScratch = false}
    {hsrc : (rowsM o h).view.WordExact} {hdst : (rowsM o h).view.WordExact}
    {hsem : DmaTarget.Typed .vmem (.dma sR) (.remote (Dev.tc n : Thread nD τ) (rowsM o h : Memref sig .tc .vmem S256x1024 .bf16) (.dma sS) hsc)}
    {α : Type} {Q : α → sProp 𝕄} {p : PUnit → Prog (TpuEff nD τ sig (Elt F) Λ₀ .tc) α} :
    phase1 x K c R (j + 1) j
      ⊢ iprop((phase1 x K c R (j + 1) (j + 1) -∗ run c (p ⟨⟩) Q)
          -∗ run c (.op (.enqueueDma (rowsM o h) (.remote (Dev.tc n : Thread nD τ) (rowsM o h) (.dma sS) hsc) (.dma sR) hsrc hdst hsem) p) Q) := by
  subst hj
  unfold phase1
  iintro ⟨#HE, HB, HO, HS, HR⟩ Hk
  ihave HS := (stages_second i (rawY c) (readyY x c) (sentY c) (i.val + 1) (Nat.lt_succ_self _)) $$ HS
  unfold readyY tokY
  icases HS with ⟨⟨HA, HD, HtS, HtR⟩, HS⟩
  iapply (send_chunk x K c n (acrossY c) hn 0 1 i hS hR ho (by show own (acrossY (acrossY c)) = own c; rw [acrossY_twice])
    (fun q hq => gathered_acrossY x c (chunk_quarter hq)) (debt_stepY c i 0)) $$ [HO HA HD HtS HtR]
  · isplitr; · iexact HE
    isplitl [HO]; · iexact HO
    isplitl [HA]; · iexact HA
    isplitl [HD]; · iexact HD
    isplitl [HtS] <;> iassumption
  iintro ⟨HO, Hc⟩
  iapply Hk
  isplitr; · iexact HE
  isplitl [HB]; · iexact HB
  isplitl [HO]; · iexact HO
  isplitr [HR]
  · iapply HS; unfold sentY; iexact Hc
  · iexact HR

/-- The other half of the block: before the store, the rows hold anything; -/
theorem half_peek {R : sProp 𝕄} {n m : ℕ} {o : Fin 2 → ℕ} {h : ∀ a, o a + S2048x1024.size a ≤ S8192x1024.size a} (ho : o = ![2048 * own (acrossZ c), 0])
    {hl : outM.view.LoadsAt (Rect.unit (s := S8192x1024) o S2048x1024.size h).toLoadRect} {α : Type} {Q : α → sProp 𝕄}
    {p : ((Rect.unit (s := S8192x1024) o S2048x1024.size h).toLoadRect.shape.Idx → Elt F .bf16) → Prog (TpuEff nD τ sig (Elt F) Λ₀ .tc) α} :
    phase1 x K c iprop(heldAny c (quarter (own (acrossZ c))) ∗ R) n m
      ⊢ iprop((∀ v, phase1 x K c iprop(heldAny c (quarter (own (acrossZ c))) ∗ R) n m -∗ run c (p v) Q)
          -∗ run c (.op (.load outM (Rect.unit (s := S8192x1024) o S2048x1024.size h).toLoadRect hl) p) Q) := by
  unfold phase1
  iintro ⟨#HE, HB, HO, HS, HA, HR⟩ Hk
  rw [show quarter (own (acrossZ c)) = band (2048 * own (acrossZ c)) 2048 from rfl]
  iapply (load_rows c (lo := 2048 * own (acrossZ c)) (len := 2048) ho rfl) $$ HA
  iintro %v HA
  iapply Hk
  isplitr; · iexact HE
  isplitl [HB]; · iexact HB
  isplitl [HO]; · iexact HO
  isplitl [HS]; · iexact HS
  isplitl [HA]
  · iexact HA
  · iexact HR

/-- after it, the gathered array. -/
theorem half_store {R : sProp 𝕄} {n m : ℕ} {o o' : Fin 2 → ℕ} {h : ∀ a, o a + S2048x1024.size a ≤ S8192x1024.size a}
    (ho : o = ![2048 * own (acrossZ c), 0]) (h' : ∀ a, o' a + S2048x1024.size a ≤ S4096x1024.size a) (ho' : o' = ![2048 - 2048 * (c.val % 2), 0])
    {w : (Rect.unit (s := S8192x1024) o S2048x1024.size h).shape.Idx → Elt F .bf16}
    (hw : w = inM.view.readAt (Elt F) (Rect.unit (s := S4096x1024) o' S2048x1024.size h').toLoadRect (x c))
    {hx : (outM.access (Rect.unit (s := S8192x1024) o S2048x1024.size h)).Stores Finset.univ}
    {hm : (Finset.univ : Finset (Rect.unit (s := S8192x1024) o S2048x1024.size h).shape.Idx) = Finset.univ ∨ ∀ a, (Rect.unit (s := S8192x1024) o S2048x1024.size h).stride a = 1}
    {α : Type} {Q : α → sProp 𝕄} {p : PUnit → Prog (TpuEff nD τ sig (Elt F) Λ₀ .tc) α} :
    phase1 x K c iprop(heldAny c (quarter (own (acrossZ c))) ∗ R) n m
      ⊢ iprop((phase1 x K c iprop(held c (quarter (own (acrossZ c))) (gathered x c) ∗ R) n m -∗ run c (p ⟨⟩) Q)
          -∗ run c (.op (.store outM (Rect.unit (s := S8192x1024) o S2048x1024.size h) w Finset.univ hx hm) p) Q) := by
  have hz : own (acrossZ c) % 2 = 1 - c.val % 2 := (by decide : ∀ d : Dev nD, own (acrossZ d) % 2 = 1 - d.val % 2) c
  unfold phase1
  iintro ⟨#HE, HB, HO, HS, HA, HR⟩ Hk
  rw [show quarter (own (acrossZ c)) = band (2048 * own (acrossZ c)) 2048 from rfl]
  iapply (store_rows x c h' (lo := 2048 * own (acrossZ c)) (lo' := 2048 - 2048 * (c.val % 2)) (len := 2048) ho ho' rfl
    (fun r hr => by omega) (fun r h1 h2 => Or.inr (by omega)) hw) $$ HA
  iintro HA
  iapply Hk
  isplitr; · iexact HE
  isplitl [HB]; · iexact HB
  isplitl [HO]; · iexact HO
  isplitl [HS]; · iexact HS
  isplitl [HA]
  · iexact HA
  · iexact HR

end Phase1

/-! ### Phases 2, 3 and 4 -/

section Later
variable {o : Fin 2 → ℕ} {h : ∀ a, o a + S256x1024.size a ≤ S8192x1024.size a}
  {src : Memref sig .tc .vmem S256x1024 .bf16} {hsrc : src.view.WordExact} {hdst : (rowsM o h).view.WordExact} {s : DmaSem sig}

/-- A device that owes nothing may wait. -/
theorem mayWait_nothing (sm : SemLoc sig) : (levAts lvls lvl : sProp 𝕄) ⊢ MayWait (c : Thread nD τ) sm () 0 := by
  rw [MayWait_zero]; iintro -; iempintro

/-- Waiting for chunk `i` across y brings its rows. -/
theorem pass_wait {R : sProp 𝕄} (i : Fin 8) (j : ℕ) (hj : i.val = j) (hs : s = semAt 1 i)
    {α : Type} {Q : α → sProp 𝕄} {p : PUnit → Prog (TpuEff nD τ sig (Elt F) Λ₀ .tc) α} :
    phase2 x K c R j j
      ⊢ iprop((phase2 x K c R (j + 1) j -∗ run c (p ⟨⟩) Q) -∗ run c (.op (.waitDma2 s src (rowsM o h) hsrc hdst) p) Q) := by
  subst hj
  unfold phase2
  iintro ⟨#HE, HO, HS, HR⟩ Hk
  ihave HS := (stages_first i (waitY c) (passZ x c) (sentZ c) i.val le_rfl) $$ HS
  unfold waitY passZ pending
  icases HS with ⟨⟨⟨Hat, Hc⟩, HT⟩, HS⟩
  iapply (wait_chunk x K c 1 i (mayWait_recvY c i i.val) hs) $$ [HO Hat Hc]
  · isplitr; · iexact HE
    isplitl [HO]; · iexact HO
    isplitl [Hat] <;> iassumption
  iintro ⟨HO, Hz, HA⟩
  iapply Hk
  isplitr; · iexact HE
  isplitl [HO]; · iexact HO
  isplitr [HR]
  · iapply HS
    isplitr [HT]
    · unfold arrived; isplitl [Hz] <;> iassumption
    · iexact HT
  · iexact HR

/-- Forwarding chunk `i` across z hands its rows over and pays the debt. -/
theorem pass_send {R : sProp 𝕄} (i : Fin 8) (j : ℕ) (hj : i.val = j) {n : Dev nD} (hn : n = acrossZ c) {sS sR : DmaSem sig} (hS : sS = semAt 2 i) (hR : sR = semAt 3 i)
    (ho : o = ![2048 * own (acrossY c) + 256 * i.val, 0])
    {hsc : (rowsM o h : Memref sig (Dev.tc n : Thread nD τ).2.kind .vmem S256x1024 .bf16).view.ref.isScScratch = false}
    {hsrc : (rowsM o h).view.WordExact}
    {hsem : DmaTarget.Typed .vmem (.dma sR) (.remote (Dev.tc n : Thread nD τ) (rowsM o h : Memref sig .tc .vmem S256x1024 .bf16) (.dma sS) hsc)}
    {α : Type} {Q : α → sProp 𝕄} {p : PUnit → Prog (TpuEff nD τ sig (Elt F) Λ₀ .tc) α} :
    phase2 x K c R (j + 1) j
      ⊢ iprop((phase2 x K c R (j + 1) (j + 1) -∗ run c (p ⟨⟩) Q)
          -∗ run c (.op (.enqueueDma (rowsM o h) (.remote (Dev.tc n : Thread nD τ) (rowsM o h) (.dma sS) hsc) (.dma sR) hsrc hdst hsem) p) Q) := by
  subst hj
  unfold phase2
  iintro ⟨#HE, HO, HS, HR⟩ Hk
  ihave HS := (stages_second i (waitY c) (passZ x c) (sentZ c) (i.val + 1) (Nat.lt_succ_self _)) $$ HS
  unfold passZ tokZ arrived
  icases HS with ⟨⟨⟨Hz, HA⟩, HD, HtS, HtR⟩, HS⟩
  iapply (send_chunk x K c n (acrossZ c) hn 2 3 i hS hR ho (by show own (acrossY (acrossZ (acrossZ c))) = own (acrossY c); rw [acrossZ_twice])
    (fun q hq => gathered_acrossZ x c (chunk_quarter hq)) (debt_stepZ c 8 i)) $$ [HO HA HD HtS HtR]
  · isplitr; · iexact HE
    isplitl [HO]; · iexact HO
    isplitl [HA]; · unfold dmaPay; iexact HA
    isplitl [HD]; · iexact HD
    isplitl [HtS] <;> iassumption
  iintro ⟨HO, Hc⟩
  iapply Hk
  isplitr; · iexact HE
  isplitl [HO]; · iexact HO
  isplitr [HR]
  · iapply HS; unfold sentZ; isplitl [Hz] <;> iassumption
  · iexact HR

/-- Waiting for chunk `i` across z brings its rows. -/
theorem got_wait {R : sProp 𝕄} (i : Fin 8) (j : ℕ) (hj : i.val = j) (hs : s = semAt 3 i)
    {α : Type} {Q : α → sProp 𝕄} {p : PUnit → Prog (TpuEff nD τ sig (Elt F) Λ₀ .tc) α} :
    phase3 x K c R j
      ⊢ iprop((phase3 x K c R (j + 1) -∗ run c (p ⟨⟩) Q) -∗ run c (.op (.waitDma2 s src (rowsM o h) hsrc hdst) p) Q) := by
  subst hj
  unfold phase3
  iintro ⟨#HE, HO, HS, HR⟩ Hk
  ihave HS := (stages_first i (pending c 3) (arrived x c 3) (arrived x c 3) 0 (Nat.zero_le _)) $$ HS
  icases HS with ⟨HP, HS⟩
  iapply (wait_chunk x K c 3 i (mayWait_nothing c _) hs) $$ [HO HP]
  · isplitr; · iexact HE
    isplitl [HO]; · iexact HO
    unfold pending; iexact HP
  iintro ⟨HO, HA⟩
  iapply Hk
  isplitr; · iexact HE
  isplitl [HO]; · iexact HO
  isplitr [HR]
  · iapply HS; unfold arrived; iexact HA
  · iexact HR

/-- Waiting for the send of chunk `i` across y brings its rows back. -/
theorem back_waitY {R : sProp 𝕄} (i : Fin 8) (j : ℕ) (hj : i.val = j) (hs : s = semAt 0 i)
    {α : Type} {Q : α → sProp 𝕄} {p : PUnit → Prog (TpuEff nD τ sig (Elt F) Λ₀ .tc) α} :
    phase4 x K c R j j
      ⊢ iprop((phase4 x K c R (j + 1) j -∗ run c (p ⟨⟩) Q) -∗ run c (.op (.waitDma2 s src (rowsM o h) hsrc hdst) p) Q) := by
  subst hj
  unfold phase4
  iintro ⟨#HE, HO, HS, HR⟩ Hk
  ihave HS := (stages_first i (bothOut c) (oneOut x c) (noneOut x c) i.val le_rfl) $$ HS
  unfold bothOut oneOut
  icases HS with ⟨⟨HP, HP'⟩, HS⟩
  iapply (wait_chunk x K c 0 i (mayWait_nothing c _) hs) $$ [HO HP]
  · isplitr; · iexact HE
    isplitl [HO]; · iexact HO
    unfold pending; iexact HP
  iintro ⟨HO, HA⟩
  iapply Hk
  isplitr; · iexact HE
  isplitl [HO]; · iexact HO
  isplitr [HR]
  · iapply HS
    isplitl [HA]
    · unfold arrived; iexact HA
    · iexact HP'
  · iexact HR

/-- Waiting for the send of chunk `i` across z brings its rows back. -/
theorem back_waitZ {R : sProp 𝕄} (i : Fin 8) (j : ℕ) (hj : i.val = j) (hs : s = semAt 2 i)
    {α : Type} {Q : α → sProp 𝕄} {p : PUnit → Prog (TpuEff nD τ sig (Elt F) Λ₀ .tc) α} :
    phase4 x K c R (j + 1) j
      ⊢ iprop((phase4 x K c R (j + 1) (j + 1) -∗ run c (p ⟨⟩) Q) -∗ run c (.op (.waitDma2 s src (rowsM o h) hsrc hdst) p) Q) := by
  subst hj
  unfold phase4
  iintro ⟨#HE, HO, HS, HR⟩ Hk
  ihave HS := (stages_second i (bothOut c) (oneOut x c) (noneOut x c) (i.val + 1) (Nat.lt_succ_self _)) $$ HS
  unfold oneOut noneOut
  icases HS with ⟨⟨HP, HP'⟩, HS⟩
  iapply (wait_chunk x K c 2 i (mayWait_nothing c _) hs) $$ [HO HP']
  · isplitr; · iexact HE
    isplitl [HO]; · iexact HO
    unfold pending; iexact HP'
  iintro ⟨HO, HA⟩
  iapply Hk
  isplitr; · iexact HE
  isplitl [HO]; · iexact HO
  isplitr [HR]
  · iapply HS
    isplitl [HP]
    · iexact HP
    · unfold arrived; iexact HA
  · iexact HR

end Later

end Cert.Gather

end

end
-- ==== Proof.Parts.lean ====
/-
The parts the program is printed in, each from one state of the exchange to the next.
-/
module

public import proofs.«01_k».proof.Proof.Phases

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ GU ℕ

variable (x : Dev nD → InS.Idx → Elt F .bf16) (K : Dev nD × CellName → ℕ) (c : Dev nD)
  {h0 : (inM : Memref sig .tc .vmem S4096x1024 .bf16).IsWhole} {h1 : (outM : Memref sig .tc .vmem S8192x1024 .bf16).IsWhole}

/-- Nothing left to run. -/
theorem run_ret {α : Type} {a : α} {T : α → sProp 𝕄} : T a ⊢ run c (.ret a) T := by
  unfold run
  rw [wp_ret]
  iintro H
  imodintro
  iexact H

/-- A piece that ends in state `T` whatever it returns, followed by a piece that starts in `T`. -/
theorem run_bind {α β : Type} {p : Prog (TpuEff nD τ sig (Elt F) Λ₀ .tc) α} {k : α → Prog (TpuEff nD τ sig (Elt F) Λ₀ .tc) β}
    {S : sProp 𝕄} {T : α → sProp 𝕄} {Q : β → sProp 𝕄} (hp : S ⊢ run c p T) (hk : ∀ r, T r ⊢ run c (k r) Q) : S ⊢ run c (p >>= k) Q := by
  unfold run
  rw [wp_bind]
  exact hp.trans (wp_mono _ _ _ hk)

/-- What is stored is what was loaded. -/
theorem pay1_at (v : Vec F S256x1024 .bf16) : k0_pay1 v = v := shapeCast_self _ _
theorem pay2_at (v : Vec F S256x1024 .bf16) : k0_pay2 v = v := shapeCast_self _ _
theorem pay3_at (v : Vec F S256x1024 .bf16) : k0_pay3 v = v := shapeCast_self _ _
theorem pay4_at (v : Vec F S256x1024 .bf16) : k0_pay4 v = v := shapeCast_self _ _
theorem pay5_at (v : Vec F S256x1024 .bf16) : k0_pay5 v = v := shapeCast_self _ _
theorem pay6_at (v : Vec F S256x1024 .bf16) : k0_pay6 v = v := shapeCast_self _ _
theorem pay7_at (v : Vec F S256x1024 .bf16) : k0_pay7 v = v := shapeCast_self _ _
theorem pay8_at (v : Vec F S256x1024 .bf16) : k0_pay8 v = v := shapeCast_self _ _
theorem pay9_at (v : Vec F S2048x1024 .bf16) : k0_pay9 v = v := shapeCast_self _ _

/-- Which devices the copies name. -/
theorem dev3_at : (⟨k0_dev3 c, k0_dev3_lt c⟩ : Dev nD) = acrossY c := Fin.ext (k0_dev3_eq c)
theorem dev4_at : (⟨k0_dev4 c, k0_dev4_lt c⟩ : Dev nD) = acrossY c := Fin.ext (k0_dev4_eq c)
theorem dev5_at : (⟨k0_dev5 c, k0_dev5_lt c⟩ : Dev nD) = acrossY c := Fin.ext (k0_dev5_eq c)
theorem dev6_at : (⟨k0_dev6 c, k0_dev6_lt c⟩ : Dev nD) = acrossY c := Fin.ext (k0_dev6_eq c)
theorem dev7_at : (⟨k0_dev7 c, k0_dev7_lt c⟩ : Dev nD) = acrossY c := Fin.ext (k0_dev7_eq c)
theorem dev8_at : (⟨k0_dev8 c, k0_dev8_lt c⟩ : Dev nD) = acrossY c := Fin.ext (k0_dev8_eq c)
theorem dev9_at : (⟨k0_dev9 c, k0_dev9_lt c⟩ : Dev nD) = acrossY c := Fin.ext (k0_dev9_eq c)
theorem dev10_at : (⟨k0_dev10 c, k0_dev10_lt c⟩ : Dev nD) = acrossY c := Fin.ext (k0_dev10_eq c)
theorem dev11_at : (⟨k0_dev11 c, k0_dev11_lt c⟩ : Dev nD) = acrossZ c := Fin.ext (k0_dev11_eq c)
theorem dev12_at : (⟨k0_dev12 c, k0_dev12_lt c⟩ : Dev nD) = acrossZ c := Fin.ext (k0_dev12_eq c)
theorem dev13_at : (⟨k0_dev13 c, k0_dev13_lt c⟩ : Dev nD) = acrossZ c := Fin.ext (k0_dev13_eq c)
theorem dev14_at : (⟨k0_dev14 c, k0_dev14_lt c⟩ : Dev nD) = acrossZ c := Fin.ext (k0_dev14_eq c)
theorem dev15_at : (⟨k0_dev15 c, k0_dev15_lt c⟩ : Dev nD) = acrossZ c := Fin.ext (k0_dev15_eq c)
theorem dev16_at : (⟨k0_dev16 c, k0_dev16_lt c⟩ : Dev nD) = acrossZ c := Fin.ext (k0_dev16_eq c)
theorem dev17_at : (⟨k0_dev17 c, k0_dev17_lt c⟩ : Dev nD) = acrossZ c := Fin.ext (k0_dev17_eq c)
theorem dev18_at : (⟨k0_dev18 c, k0_dev18_lt c⟩ : Dev nD) = acrossZ c := Fin.ext (k0_dev18_eq c)

set_option maxHeartbeats 400000 in
/-- Chunk 0 is stored and sent, chunk 1 stored. -/
theorem part2 {R : sProp 𝕄} {v2 v8 v9 v24 v29 : BitVec 32} :
    phase1 x K c R 0 0
      ⊢ run c (k0_part2 inM h0 outM h1 cc0_scratch0 cc0_scratch1 cc0_scratch2 cc0_scratch3 c v2 v8 v9 v24 v29) (fun _ => phase1 x K c R 2 1) := by
  rw [k0_part2_eq_skeleton]; unfold k0_part2_skel
  simp only [Prog.lift, Prog.bind_op, Prog.bind_ret, Prog.pure_eq_ret]
  iintro HS
  iapply (fill_load x K c) $$ HS; iintro HS
  iapply (fill_peek x K c 0 0 rfl (off2_at c 0)) $$ HS; iintro %_ HS
  iapply (fill_store x K c 0 0 rfl (off2_at c 0) (k0_off1_inb c 0) (off1_at c 0) (pay1_at _)) $$ HS; iintro HS
  iapply (fill_send x K c 0 0 rfl (dev3_at c) rfl rfl (off3_at c 0)) $$ HS; iintro HS
  iapply (fill_load x K c) $$ HS; iintro HS
  iapply (fill_peek x K c 1 1 rfl (off2_at c 1)) $$ HS; iintro %_ HS
  iapply (fill_store x K c 1 1 rfl (off2_at c 1) (k0_off1_inb c 1) (off1_at c 1) (pay2_at _)) $$ HS; iintro HS
  iapply (run_ret c); iexact HS

set_option maxHeartbeats 400000 in
/-- Chunks 1 and 2 are sent, 2 and 3 stored. -/
theorem part3 {R : sProp 𝕄} {v2 v8 v9 v24 : BitVec 32} :
    phase1 x K c R 2 1
      ⊢ run c (k0_part3 inM h0 outM h1 cc0_scratch0 cc0_scratch1 cc0_scratch2 cc0_scratch3 c v2 v8 v9 v24) (fun _ => phase1 x K c R 4 3) := by
  rw [k0_part3_eq_skeleton]; unfold k0_part3_skel
  simp only [Prog.lift, Prog.bind_op, Prog.bind_ret, Prog.pure_eq_ret]
  iintro HS
  iapply (fill_send x K c 1 1 rfl (dev4_at c) rfl rfl (off3_at c 1)) $$ HS; iintro HS
  iapply (fill_load x K c) $$ HS; iintro HS
  iapply (fill_peek x K c 2 2 rfl (off2_at c 2)) $$ HS; iintro %_ HS
  iapply (fill_store x K c 2 2 rfl (off2_at c 2) (k0_off1_inb c 2) (off1_at c 2) (pay3_at _)) $$ HS; iintro HS
  iapply (fill_send x K c 2 2 rfl (dev5_at c) rfl rfl (off3_at c 2)) $$ HS; iintro HS
  iapply (fill_load x K c) $$ HS; iintro HS
  iapply (fill_peek x K c 3 3 rfl (off2_at c 3)) $$ HS; iintro %_ HS
  iapply (fill_store x K c 3 3 rfl (off2_at c 3) (k0_off1_inb c 3) (off1_at c 3) (pay4_at _)) $$ HS; iintro HS
  iapply (run_ret c); iexact HS

set_option maxHeartbeats 400000 in
/-- Chunks 3 and 4 are sent, 4 and 5 stored. -/
theorem part4 {R : sProp 𝕄} {v2 v8 v9 v24 v98 v99 : BitVec 32} :
    phase1 x K c R 4 3
      ⊢ run c (k0_part4 inM h0 outM h1 cc0_scratch0 cc0_scratch1 cc0_scratch2 cc0_scratch3 c v2 v8 v9 v24 v98 v99) (fun _ => phase1 x K c R 6 5) := by
  rw [k0_part4_eq_skeleton]; unfold k0_part4_skel
  simp only [Prog.lift, Prog.bind_op, Prog.bind_ret, Prog.pure_eq_ret]
  iintro HS
  iapply (fill_send x K c 3 3 rfl (dev6_at c) rfl rfl (off3_at c 3)) $$ HS; iintro HS
  iapply (fill_load x K c) $$ HS; iintro HS
  iapply (fill_peek x K c 4 4 rfl (off2_at c 4)) $$ HS; iintro %_ HS
  iapply (fill_store x K c 4 4 rfl (off2_at c 4) (k0_off1_inb c 4) (off1_at c 4) (pay5_at _)) $$ HS; iintro HS
  iapply (fill_send x K c 4 4 rfl (dev7_at c) rfl rfl (off3_at c 4)) $$ HS; iintro HS
  iapply (fill_load x K c) $$ HS; iintro HS
  iapply (fill_peek x K c 5 5 rfl (off2_at c 5)) $$ HS; iintro %_ HS
  iapply (fill_store x K c 5 5 rfl (off2_at c 5) (k0_off1_inb c 5) (off1_at c 5) (pay6_at _)) $$ HS; iintro HS
  iapply (run_ret c); iexact HS

set_option maxHeartbeats 400000 in
/-- Chunks 5 and 6 are sent, 6 stored and 7 loaded. -/
theorem part5 {R : sProp 𝕄} {v2 v8 v9 v24 c4 : BitVec 32} :
    phase1 x K c R 6 5
      ⊢ run c (k0_part5 inM h0 outM h1 cc0_scratch0 cc0_scratch1 cc0_scratch2 cc0_scratch3 c v2 v8 v9 v24 c4) (fun r => iprop(⌜r.2 = inM.view.readAt (Elt F) (Rect.unit (s := S4096x1024) (k0_off1 c 1792#32) S256x1024.size (k0_off1_inb c 7)).toLoadRect (x c)⌝ ∗ phase1 x K c R 7 7)) := by
  rw [k0_part5_eq_skeleton]; unfold k0_part5_skel
  simp only [Prog.lift, Prog.bind_op, Prog.bind_ret, Prog.pure_eq_ret]
  iintro HS
  iapply (fill_send x K c 5 5 rfl (dev8_at c) rfl rfl (off3_at c 5)) $$ HS; iintro HS
  iapply (fill_load x K c) $$ HS; iintro HS
  iapply (fill_peek x K c 6 6 rfl (off2_at c 6)) $$ HS; iintro %_ HS
  iapply (fill_store x K c 6 6 rfl (off2_at c 6) (k0_off1_inb c 6) (off1_at c 6) (pay7_at _)) $$ HS; iintro HS
  iapply (fill_send x K c 6 6 rfl (dev9_at c) rfl rfl (off3_at c 6)) $$ HS; iintro HS
  iapply (fill_load x K c) $$ HS; iintro HS
  iapply (run_ret c); isplitr; · ipureintro; rfl
  iexact HS

set_option maxHeartbeats 400000 in
/-- Chunk 7 is stored and sent, the other half stored. -/
theorem part6 {R : sProp 𝕄} {v2 v8 v9 v24 v26 v169 : BitVec 32} {w : Vec F S256x1024 .bf16} (hw : w = inM.view.readAt (Elt F) (Rect.unit (s := S4096x1024) (k0_off1 c 1792#32) S256x1024.size (k0_off1_inb c 7)).toLoadRect (x c)) :
    phase1 x K c iprop(heldAny c (quarter (own (acrossZ c))) ∗ R) 7 7
      ⊢ run c (k0_part6 inM h0 outM h1 cc0_scratch0 cc0_scratch1 cc0_scratch2 cc0_scratch3 c v2 v8 v9 v24 v26 v169 w) (fun _ => phase1 x K c iprop(held c (quarter (own (acrossZ c))) (gathered x c) ∗ R) 8 8) := by
  rw [k0_part6_eq_skeleton]; unfold k0_part6_skel
  simp only [Prog.lift, Prog.bind_op, Prog.bind_ret, Prog.pure_eq_ret]
  iintro HS
  iapply (fill_peek x K c 7 7 rfl (off2_at c 7)) $$ HS; iintro %_ HS
  iapply (fill_store x K c 7 7 rfl (off2_at c 7) (k0_off1_inb c 7) (off1_at c 7) ((pay8_at _).trans hw)) $$ HS; iintro HS
  iapply (fill_send x K c 7 7 rfl (dev10_at c) rfl rfl (off3_at c 7)) $$ HS; iintro HS
  iapply (fill_load x K c) $$ HS; iintro HS
  iapply (half_peek x K c (off5_at c)) $$ HS; iintro %_ HS
  iapply (half_store x K c (off5_at c) (k0_off4_inb c) (k0_off4_eq c) (pay9_at _)) $$ HS; iintro HS
  iapply (run_ret c); iexact HS

/-- Chunk 0 is passed on, chunk 1 arrives. -/
theorem part7 {R : sProp 𝕄} {v2 v5 v8 v9 v10 v26 : BitVec 32} :
    phase2 x K c R 0 0
      ⊢ run c (k0_part7 inM h0 outM h1 cc0_scratch0 cc0_scratch1 cc0_scratch2 cc0_scratch3 c v2 v5 v8 v9 v10 v26) (fun _ => phase2 x K c R 2 1) := by
  rw [k0_part7_eq_skeleton]; unfold k0_part7_skel
  simp only [Prog.lift, Prog.bind_op, Prog.bind_ret, Prog.pure_eq_ret]
  iintro HS
  iapply (pass_wait x K c 0 0 rfl rfl) $$ HS; iintro HS
  iapply (pass_send x K c 0 0 rfl (dev11_at c) rfl rfl (off6_at c 0)) $$ HS; iintro HS
  iapply (pass_wait x K c 1 1 rfl rfl) $$ HS; iintro HS
  iapply (run_ret c); iexact HS

/-- Chunk 1 is passed on, chunk 2 arrives and is passed on. -/
theorem part8 {R : sProp 𝕄} {v2 v5 v8 v9 v10 v26 v236 v237 : BitVec 32} :
    phase2 x K c R 2 1
      ⊢ run c (k0_part8 inM h0 outM h1 cc0_scratch0 cc0_scratch1 cc0_scratch2 cc0_scratch3 c v2 v5 v8 v9 v10 v26 v236 v237) (fun _ => phase2 x K c R 3 3) := by
  rw [k0_part8_eq_skeleton]; unfold k0_part8_skel
  simp only [Prog.lift, Prog.bind_op, Prog.bind_ret, Prog.pure_eq_ret]
  iintro HS
  iapply (pass_send x K c 1 1 rfl (dev12_at c) rfl rfl (off6_at c 1)) $$ HS; iintro HS
  iapply (pass_wait x K c 2 2 rfl rfl) $$ HS; iintro HS
  iapply (pass_send x K c 2 2 rfl (dev13_at c) rfl rfl (off6_at c 2)) $$ HS; iintro HS
  iapply (run_ret c); iexact HS

/-- Chunk 3 arrives and is passed on. -/
theorem part9 {R : sProp 𝕄} {v2 v5 v8 v9 v10 v26 v272 : BitVec 32} :
    phase2 x K c R 3 3
      ⊢ run c (k0_part9 inM h0 outM h1 cc0_scratch0 cc0_scratch1 cc0_scratch2 cc0_scratch3 c v2 v5 v8 v9 v10 v26 v272) (fun _ => phase2 x K c R 4 4) := by
  rw [k0_part9_eq_skeleton]; unfold k0_part9_skel
  simp only [Prog.lift, Prog.bind_op, Prog.bind_ret, Prog.pure_eq_ret]
  iintro HS
  iapply (pass_wait x K c 3 3 rfl rfl) $$ HS; iintro HS
  iapply (pass_send x K c 3 3 rfl (dev14_at c) rfl rfl (off6_at c 3)) $$ HS; iintro HS
  iapply (run_ret c); iexact HS

/-- Chunk 4 arrives and is passed on, chunk 5 arrives. -/
theorem part10 {R : sProp 𝕄} {v2 v5 v8 v9 v10 v26 : BitVec 32} :
    phase2 x K c R 4 4
      ⊢ run c (k0_part10 inM h0 outM h1 cc0_scratch0 cc0_scratch1 cc0_scratch2 cc0_scratch3 c v2 v5 v8 v9 v10 v26) (fun _ => phase2 x K c R 6 5) := by
  rw [k0_part10_eq_skeleton]; unfold k0_part10_skel
  simp only [Prog.lift, Prog.bind_op, Prog.bind_ret, Prog.pure_eq_ret]
  iintro HS
  iapply (pass_wait x K c 4 4 rfl rfl) $$ HS; iintro HS
  iapply (pass_send x K c 4 4 rfl (dev15_at c) rfl rfl (off6_at c 4)) $$ HS; iintro HS
  iapply (pass_wait x K c 5 5 rfl rfl) $$ HS; iintro HS
  iapply (run_ret c); iexact HS

/-- Chunk 5 is passed on, chunk 6 arrives and is passed on. -/
theorem part11 {R : sProp 𝕄} {v2 v5 v8 v9 v10 v26 v336 v337 : BitVec 32} :
    phase2 x K c R 6 5
      ⊢ run c (k0_part11 inM h0 outM h1 cc0_scratch0 cc0_scratch1 cc0_scratch2 cc0_scratch3 c v2 v5 v8 v9 v10 v26 v336 v337) (fun _ => phase2 x K c R 7 7) := by
  rw [k0_part11_eq_skeleton]; unfold k0_part11_skel
  simp only [Prog.lift, Prog.bind_op, Prog.bind_ret, Prog.pure_eq_ret]
  iintro HS
  iapply (pass_send x K c 5 5 rfl (dev16_at c) rfl rfl (off6_at c 5)) $$ HS; iintro HS
  iapply (pass_wait x K c 6 6 rfl rfl) $$ HS; iintro HS
  iapply (pass_send x K c 6 6 rfl (dev17_at c) rfl rfl (off6_at c 6)) $$ HS; iintro HS
  iapply (run_ret c); iexact HS

/-- Chunk 7 arrives and is passed on. -/
theorem part12 {R : sProp 𝕄} {v2 v5 v8 v9 v10 v26 v372 : BitVec 32} :
    phase2 x K c R 7 7
      ⊢ run c (k0_part12 inM h0 outM h1 cc0_scratch0 cc0_scratch1 cc0_scratch2 cc0_scratch3 c v2 v5 v8 v9 v10 v26 v372) (fun _ => phase2 x K c R 8 8) := by
  rw [k0_part12_eq_skeleton]; unfold k0_part12_skel
  simp only [Prog.lift, Prog.bind_op, Prog.bind_ret, Prog.pure_eq_ret]
  iintro HS
  iapply (pass_wait x K c 7 7 rfl rfl) $$ HS; iintro HS
  iapply (pass_send x K c 7 7 rfl (dev18_at c) rfl rfl (off6_at c 7)) $$ HS; iintro HS
  iapply (run_ret c); iexact HS

/-- Chunks 0 and 1 arrive across z. -/
theorem part13 {R : sProp 𝕄} {v2 v5 v8 v10 v26 v404 c1_i32_258 : BitVec 32} :
    phase3 x K c R 0
      ⊢ run c (k0_part13 inM h0 outM h1 cc0_scratch0 cc0_scratch1 cc0_scratch2 cc0_scratch3 c v2 v5 v8 v10 v26 v404 c1_i32_258) (fun _ => phase3 x K c R 2) := by
  rw [k0_part13_eq_skeleton]; unfold k0_part13_skel
  simp only [Prog.lift, Prog.bind_op, Prog.bind_ret, Prog.pure_eq_ret]
  iintro HS
  iapply (got_wait x K c 0 0 rfl rfl) $$ HS; iintro HS
  iapply (got_wait x K c 1 1 rfl rfl) $$ HS; iintro HS
  iapply (run_ret c); iexact HS

/-- Chunks 2, 3 and 4 arrive across z. -/
theorem part14 {R : sProp 𝕄} {v2 v5 v8 v10 v26 : BitVec 32} :
    phase3 x K c R 2
      ⊢ run c (k0_part14 inM h0 outM h1 cc0_scratch0 cc0_scratch1 cc0_scratch2 cc0_scratch3 c v2 v5 v8 v10 v26) (fun _ => phase3 x K c R 5) := by
  rw [k0_part14_eq_skeleton]; unfold k0_part14_skel
  simp only [Prog.lift, Prog.bind_op, Prog.bind_ret, Prog.pure_eq_ret]
  iintro HS
  iapply (got_wait x K c 2 2 rfl rfl) $$ HS; iintro HS
  iapply (got_wait x K c 3 3 rfl rfl) $$ HS; iintro HS
  iapply (got_wait x K c 4 4 rfl rfl) $$ HS; iintro HS
  iapply (run_ret c); iexact HS

/-- Chunks 5 and 6 arrive across z. -/
theorem part15 {R : sProp 𝕄} {v2 v5 v8 v10 v26 : BitVec 32} :
    phase3 x K c R 5
      ⊢ run c (k0_part15 inM h0 outM h1 cc0_scratch0 cc0_scratch1 cc0_scratch2 cc0_scratch3 c v2 v5 v8 v10 v26) (fun _ => phase3 x K c R 7) := by
  rw [k0_part15_eq_skeleton]; unfold k0_part15_skel
  simp only [Prog.lift, Prog.bind_op, Prog.bind_ret, Prog.pure_eq_ret]
  iintro HS
  iapply (got_wait x K c 5 5 rfl rfl) $$ HS; iintro HS
  iapply (got_wait x K c 6 6 rfl rfl) $$ HS; iintro HS
  iapply (run_ret c); iexact HS

/-- Chunk 7 arrives across z; chunks 0 and 1 have been sent. -/
theorem part16 {R T : sProp 𝕄} (hT : phase3 x K c R 8 ⊢ phase4 x K c T 0 0) {v10 v500 v501 : BitVec 32} :
    phase3 x K c R 7
      ⊢ run c (k0_part16 inM h0 outM h1 cc0_scratch0 cc0_scratch1 cc0_scratch2 cc0_scratch3 c v10 v500 v501) (fun _ => phase4 x K c T 2 2) := by
  rw [k0_part16_eq_skeleton]; unfold k0_part16_skel
  simp only [Prog.lift, Prog.bind_op, Prog.bind_ret, Prog.pure_eq_ret]
  iintro HS
  iapply (got_wait x K c 7 7 rfl rfl) $$ HS; iintro HS
  ihave HS := hT $$ HS
  iapply (back_waitY x K c 0 0 rfl rfl) $$ HS; iintro HS
  iapply (back_waitZ x K c 0 0 rfl rfl) $$ HS; iintro HS
  iapply (back_waitY x K c 1 1 rfl rfl) $$ HS; iintro HS
  iapply (back_waitZ x K c 1 1 rfl rfl) $$ HS; iintro HS
  iapply (run_ret c); iexact HS

/-- Chunks 2, 3 and 4 have been sent. -/
theorem part17 {R : sProp 𝕄} :
    phase4 x K c R 2 2
      ⊢ run c (k0_part17 inM h0 outM h1 cc0_scratch0 cc0_scratch1 cc0_scratch2 cc0_scratch3 c ) (fun _ => phase4 x K c R 5 5) := by
  rw [k0_part17_eq_skeleton]; unfold k0_part17_skel
  simp only [Prog.lift, Prog.bind_op, Prog.bind_ret, Prog.pure_eq_ret]
  iintro HS
  iapply (back_waitY x K c 2 2 rfl rfl) $$ HS; iintro HS
  iapply (back_waitZ x K c 2 2 rfl rfl) $$ HS; iintro HS
  iapply (back_waitY x K c 3 3 rfl rfl) $$ HS; iintro HS
  iapply (back_waitZ x K c 3 3 rfl rfl) $$ HS; iintro HS
  iapply (back_waitY x K c 4 4 rfl rfl) $$ HS; iintro HS
  iapply (back_waitZ x K c 4 4 rfl rfl) $$ HS; iintro HS
  iapply (run_ret c); iexact HS

end Cert.Gather

end

end
-- ==== Proof.Ends.lean ====
/-
How the phases join: what a device is dealt, how the end of one phase is the start of the next, and what the last one leaves.
-/
module

public import proofs.«01_k».proof.Proof.Parts

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ GU ℕ

/-! ### The result's rows, by quarter and chunk -/

/-- The whole result as the chunks of three quarters and the fourth quarter in one piece. -/
theorem held_all (c : Dev nD) (f : OutS.Idx → Elt F .bf16) :
    (held c Finset.univ f : sProp 𝕄) = iprop((bigSep Finset.univ fun i => held c (chunk (own c) i) f) ∗ held c (quarter (own (acrossZ c))) f
      ∗ (bigSep Finset.univ fun i => held c (chunk (own (acrossY c)) i) f) ∗ bigSep Finset.univ fun i => held c (chunk (own (acrossY (acrossZ c))) i) f) := by
  have hq : ∀ q, (held c (quarter q) f : sProp 𝕄) = bigSep Finset.univ fun i => held c (chunk q i) f := fun q => by
    unfold held; rw [quarter_chunks]; exact pointsTo_biUnion _ _ (chunks_disjoint q)
  have ha : (held c Finset.univ f : sProp 𝕄) = bigSep Finset.univ fun k => held c (quarter (turn c k)) f := by
    unfold held; rw [univ_quarters c]; exact pointsTo_biUnion _ _ (quarters_disjoint c)
  rw [ha, ← hq, ← hq, ← hq]
  exact bigSep_univ_eq_bigSepL [0, 1, 2, 3] (by decide) (by decide) _

/-- The chunks of a quarter, each forgetting its contents. -/
theorem forget_chunks (c : Dev nD) (q : ℕ) (f : OutS.Idx → Elt F .bf16) :
    (bigSep Finset.univ fun i => (held c (chunk q i) f : sProp 𝕄)) ⊢ bigSep Finset.univ fun i => heldAny c (chunk q i) := by
  have h : ∀ i, (held c (chunk q i) f : sProp 𝕄) ⊢ heldAny c (chunk q i) := fun i => by
    unfold heldAny; iintro H; iexists f; iexact H
  exact bigSep_mono fun i _ => h i

/-- Two families side by side, and one family of pairs. -/
theorem pair_up (P Q : Fin 8 → sProp 𝕄) : iprop(bigSep Finset.univ P ∗ bigSep Finset.univ Q) ⊢ bigSep Finset.univ fun i => iprop(P i ∗ Q i) :=
  Entails.of_eq (bigSep_sep' _ P Q).symm
/-- A family of pairs is a pair of families. -/
theorem pair_down (P Q : Fin 8 → sProp 𝕄) : (bigSep Finset.univ fun i => iprop(P i ∗ Q i)) ⊢ iprop(bigSep Finset.univ P ∗ bigSep Finset.univ Q) :=
  Entails.of_eq (bigSep_sep' _ P Q)

variable (x : Dev nD → InS.Idx → Elt F .bf16) (K : Dev nD × CellName → ℕ) (c : Dev nD)

/-! ### What a device starts and ends with -/

/-- What a device is dealt for chunk `i`: the positions of its four cells, the credits of the two it receives on, and the
    duties of the two transfers it sends. -/
def dealt (i : Fin 8) : sProp 𝕄 :=
  iprop((atPos EX (dmaCell c 0 i) 0 ∅ 0 ∗ atPos EX (dmaCell c 2 i) 0 ∅ 0) ∗ (pending c 1 i ∗ pending c 3 i)
    ∗ (dutyTok EX (dmaCell c 0 i) 0 false ∗ dutyTok EX (dmaCell (acrossY c) 1 i) 0 false)
    ∗ (dutyTok EX (dmaCell c 2 i) 0 false ∗ dutyTok EX (dmaCell (acrossZ c) 3 i) 0 false))

/-- What a device is dealt besides its buffers. -/
def deal : sProp 𝕄 :=
  iprop((atPos EX (barCell c) 0 ∅ 0 ∗ cred (tallyAt (barCell c) () 2)
      ∗ dutyTok EX (barCell (acrossY c)) 0 false ∗ dutyTok EX (barCell (acrossZ c)) 0 true)
    ∗ bigSep Finset.univ (dealt c))

/-- Every cell of the device at zero again. -/
def closed : sProp 𝕄 :=
  iprop(semVal (barCell c) 0 ∗ bigSep Finset.univ fun ki : Fin 4 × Fin 8 => semVal (dmaCell c ki.1 ki.2) 0)

/-! ### The resources a phase carries along for later ones -/

/-- Carried past the barrier to the last phase: the z receipts to come, the positions of the send cells, the closed barrier. -/
def restB : sProp 𝕄 :=
  iprop((bigSep Finset.univ (pending c 3)) ∗ (bigSep Finset.univ fun i => iprop(atPos EX (dmaCell c 0 i) 0 ∅ 0 ∗ atPos EX (dmaCell c 2 i) 0 ∅ 0))
    ∗ semVal (barCell c) 0)
/-- Carried through the first phase. -/
def rest1 (H : sProp 𝕄) : sProp 𝕄 := iprop(H ∗ bigSep Finset.univ (waitY c) ∗ restB c)
/-- The other half of the device's own block, in place in the result. -/
def half : sProp 𝕄 := held c (quarter (own (acrossZ c))) (gathered x c)
/-- Carried through the second phase. -/
def rest2 : sProp 𝕄 := iprop(block x c ∗ half x c ∗ bigSep Finset.univ (sentY c) ∗ restB c)
/-- Carried through the third phase. -/
def rest3 : sProp 𝕄 :=
  iprop(block x c ∗ half x c ∗ (bigSep Finset.univ fun i => semVal (dmaCell c 1 i) 0) ∗ (bigSep Finset.univ (bothOut c)) ∗ semVal (barCell c) 0)
/-- Carried through the last phase. -/
def rest4 : sProp 𝕄 :=
  iprop(block x c ∗ half x c ∗ (bigSep Finset.univ fun i => semVal (dmaCell c 1 i) 0) ∗ (bigSep Finset.univ (arrived x c 3)) ∗ semVal (barCell c) 0)

/-- The first phase ends where the second begins. -/
theorem to_phase2 : phase1 x K c (rest1 c (half x c)) 8 8 ⊢ phase2 x K c (rest2 x c) 0 0 := by
  unfold phase1 phase2 rest1 rest2
  rw [stages_end, stages_begin]
  iintro ⟨HE, HB, HO, HS, HH, HW, HR⟩
  isplitl [HE]; · iexact HE
  isplitl [HO]; · iexact HO
  isplitl [HW]; · iexact HW
  isplitl [HB]; · iexact HB
  isplitl [HH]; · iexact HH
  isplitl [HS]; · iexact HS
  iexact HR

/-- The second phase ends where the third begins. -/
theorem to_phase3 : phase2 x K c (rest2 x c) 8 8 ⊢ phase3 x K c (rest3 x c) 0 := by
  have hz : bigSep Finset.univ (sentZ c)
      ⊢ iprop((bigSep Finset.univ fun i => (semVal (dmaCell c 1 i) 0 : sProp 𝕄)) ∗ bigSep Finset.univ fun i => cred (tallyAt (dmaCell c 2 i) () units)) :=
    pair_down _ _
  have hb : iprop((bigSep Finset.univ fun i => (iprop(atPos EX (dmaCell c 0 i) 0 ∅ 0 ∗ atPos EX (dmaCell c 2 i) 0 ∅ 0) : sProp 𝕄))
      ∗ bigSep Finset.univ fun i => (iprop(sentY c i ∗ cred (tallyAt (dmaCell c 2 i) () units)) : sProp 𝕄)) ⊢ bigSep Finset.univ (bothOut c) := by
    refine (pair_up _ _).trans (bigSep_mono fun i _ => ?_)
    show (iprop((atPos EX (dmaCell c 0 i) 0 ∅ 0 ∗ atPos EX (dmaCell c 2 i) 0 ∅ 0) ∗ sentY c i ∗ cred (tallyAt (dmaCell c 2 i) () units)) : sProp 𝕄) ⊢ bothOut c i
    unfold bothOut pending sentY
    iintro ⟨⟨H1, H2⟩, H3, H4⟩
    isplitl [H1 H3]
    · isplitl [H1] <;> iassumption
    · isplitl [H2] <;> iassumption
  unfold phase2 phase3 rest2 rest3 restB
  rw [stages_end, stages_begin, debt_end]
  iintro ⟨HE, HO, HS, HB, HH, HY, H3, HP, Hz⟩
  ihave HS := hz $$ HS
  icases HS with ⟨H1, H2⟩
  isplitl [HE]; · iexact HE
  isplitl [HO]; · iexact HO
  isplitl [H3]; · iexact H3
  isplitl [HB]; · iexact HB
  isplitl [HH]; · iexact HH
  isplitl [H1]; · iexact H1
  isplitr [Hz]
  · iapply hb
    isplitl [HP]; · iexact HP
    iapply (pair_up (sentY c) fun i => cred (tallyAt (dmaCell c 2 i) () units))
    isplitl [HY] <;> iassumption
  · iexact Hz

/-- The third phase ends where the last begins. -/
theorem to_phase4 : phase3 x K c (rest3 x c) 8 ⊢ phase4 x K c (rest4 x c) 0 0 := by
  unfold phase3 phase4 rest3 rest4
  rw [stages_end', stages_begin]
  iintro ⟨HE, HO, HS, HB, HH, H1, HP, Hz⟩
  isplitl [HE]; · iexact HE
  isplitl [HO]; · iexact HO
  isplitl [HP]; · iexact HP
  isplitl [HB]; · iexact HB
  isplitl [HH]; · iexact HH
  isplitl [H1]; · iexact H1
  isplitl [HS]; · iexact HS
  iexact Hz

/-- What the last phase leaves: every cell closed and the gathered array. -/
theorem finish : phase4 x K c (rest4 x c) 8 8 ⊢ iprop(closed c ∗ block x c ∗ held c Finset.univ (gathered x c) ∗ owing c 0) := by
  have hp : (bigSep Finset.univ fun ki : Fin 4 × Fin 8 => (semVal (dmaCell c ki.1 ki.2) 0 : sProp 𝕄))
      = iprop((bigSep Finset.univ fun i => semVal (dmaCell c 0 i) 0) ∗ (bigSep Finset.univ fun i => semVal (dmaCell c 1 i) 0)
        ∗ (bigSep Finset.univ fun i => semVal (dmaCell c 2 i) 0) ∗ bigSep Finset.univ fun i => semVal (dmaCell c 3 i) 0) := by
    rw [bigSep_univ_prod]
    exact bigSep_univ_eq_bigSepL [0, 1, 2, 3] (by decide) (by decide) _
  have hn : bigSep Finset.univ (noneOut x c) ⊢ iprop(bigSep Finset.univ (arrived x c 0) ∗ bigSep Finset.univ (arrived x c 2)) := pair_down _ _
  have ha : ∀ k, bigSep Finset.univ (arrived x c k)
      ⊢ iprop((bigSep Finset.univ fun i => (semVal (dmaCell c k i) 0 : sProp 𝕄)) ∗ bigSep Finset.univ fun i => dmaPay x c k i) := fun k => pair_down _ _
  unfold phase4 rest4 closed half
  rw [stages_end, hp, held_all]
  iintro ⟨-, HO, HS, HB, HH, H1, H3, Hz⟩
  ihave HS := hn $$ HS
  icases HS with ⟨H0, H2⟩
  ihave H0 := (ha 0) $$ H0
  icases H0 with ⟨Hs0, Hp0⟩
  ihave H2 := (ha 2) $$ H2
  icases H2 with ⟨Hs2, Hp2⟩
  ihave H3 := (ha 3) $$ H3
  icases H3 with ⟨Hs3, Hp3⟩
  isplitl [Hz Hs0 H1 Hs2 Hs3]
  · isplitl [Hz]; · iexact Hz
    isplitl [Hs0]; · iexact Hs0
    isplitl [H1]; · iexact H1
    isplitl [Hs2] <;> iassumption
  isplitl [HB]; · iexact HB
  isplitr [HO]
  · unfold dmaPay quarterOf
    isplitl [Hp0]; · iexact Hp0
    isplitl [HH]; · iexact HH
    isplitl [Hp2]; · iexact Hp2
    iexact Hp3
  · iexact HO

end Cert.Gather

end

end
-- ==== Proof.Body.lean ====
/-
The body from end to end: the barrier, then the phases one after the other.
-/
module

public import proofs.«01_k».proof.Proof.Ends

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ GU ℕ

variable (x : Dev nD → InS.Idx → Elt F .bf16) (K : Dev nD × CellName → ℕ) (c : Dev nD)
  {h0 : (inM : Memref sig .tc .vmem S4096x1024 .bf16).IsWhole} {h1 : (outM : Memref sig .tc .vmem S8192x1024 .bf16).IsWhole}

/-- Which devices the signals name. -/
theorem dev1_at : (⟨k0_dev1 c, k0_dev1_lt c⟩ : Dev nD) = acrossY c := Fin.ext (k0_dev1_eq c)
/-- The second signal goes to the z neighbour. -/
theorem dev2_at : (⟨k0_dev2 c, k0_dev2_lt c⟩ : Dev nD) = acrossZ c := Fin.ext (k0_dev2_eq c)

/-- What a device has when its body starts. -/
def atStart : sProp 𝕄 := iprop(env x K ∗ deal c ∗ block x c ∗ heldAny c Finset.univ ∗ owing c (debt₀ c))

/-- The pieces the phases work on, from the pieces dealt by chunk and the neighbours' rows. -/
theorem deal_out : iprop(bigSep Finset.univ (dealt c) ∗ (bigSep Finset.univ fun i => heldAny c (chunk (own c) i)) ∗ barPay c false ∗ barPay c true)
    ⊢ iprop(bigSep Finset.univ (rawY c) ∗ bigSep Finset.univ (waitY c) ∗ bigSep Finset.univ (pending c 3)
      ∗ (bigSep Finset.univ fun i => (iprop(atPos EX (dmaCell c 0 i) 0 ∅ 0 ∗ atPos EX (dmaCell c 2 i) 0 ∅ 0) : sProp 𝕄))) := by
  have h : ∀ i, (iprop(dealt c i ∗ heldAny c (chunk (own c) i) ∗ heldAny (acrossY c) (chunk (own c) i) ∗ heldAny (acrossZ c) (chunk (own (acrossY c)) i)) : sProp 𝕄)
      ⊢ iprop(rawY c i ∗ waitY c i ∗ pending c 3 i ∗ atPos EX (dmaCell c 0 i) 0 ∅ 0 ∗ atPos EX (dmaCell c 2 i) 0 ∅ 0) := fun i => by
    unfold dealt rawY waitY tokY tokZ
    iintro ⟨⟨Hat, ⟨H1, H3⟩, ⟨HtS, HtR⟩, HtS', HtR'⟩, HA, HY, HZ⟩
    isplitl [HA HY HtS HtR]
    · isplitl [HA]; · iexact HA
      isplitl [HY]; · iexact HY
      isplitl [HtS] <;> iassumption
    isplitl [H1 HZ HtS' HtR']
    · isplitl [H1]; · iexact H1
      isplitl [HZ]; · iexact HZ
      isplitl [HtS'] <;> iassumption
    isplitl [H3] <;> iassumption
  have hm := bigSep_mono (s := (Finset.univ : Finset (Fin 8))) fun i _ => h i
  rw [bigSep_sep', bigSep_sep', bigSep_sep', bigSep_sep', bigSep_sep', bigSep_sep'] at hm
  exact hm

/-- The rows the y neighbour will write, as what its barrier takes; -/
theorem free_rowsY (f : OutS.Idx → Elt F .bf16) :
    (bigSep Finset.univ fun i => (held c (chunk (own (acrossY c)) i) f : sProp 𝕄)) ⊢ (plan x).payload (barCell (acrossY c)) 0 false := by
  show _ ⊢ bigSep Finset.univ fun i => (heldAny (acrossY (acrossY c)) (chunk (own (acrossY c)) i) : sProp 𝕄)
  rw [acrossY_twice]
  exact forget_chunks c _ f
/-- the rows the z neighbour will write. -/
theorem free_rowsZ (f : OutS.Idx → Elt F .bf16) :
    (bigSep Finset.univ fun i => (held c (chunk (own (acrossY (acrossZ c))) i) f : sProp 𝕄)) ⊢ (plan x).payload (barCell (acrossZ c)) 0 true := by
  show _ ⊢ bigSep Finset.univ fun i => (heldAny (acrossZ (acrossZ c)) (chunk (own (acrossY (acrossZ c))) i) : sProp 𝕄)
  rw [acrossZ_twice]
  exact forget_chunks c _ f

/-- The barrier: each neighbour is told that the rows it will write are free, and both have told the device so. -/
theorem part1 : atStart x K c
      ⊢ run c (k0_part1 inM h0 outM h1 cc0_scratch0 cc0_scratch1 cc0_scratch2 cc0_scratch3)
        (fun r => iprop(⌜r.1 = c⌝ ∗ phase1 x K c (rest1 c (heldAny c (quarter (own (acrossZ c))))) 0 0)) := by
  rw [k0_part1_eq_skeleton]; unfold k0_part1_skel
  simp only [semSignalWord, semWaitWord, Prog.lift, Prog.bind_op, Prog.bind_ret, Prog.pure_eq_ret, wp_deviceId, dev1_at c, dev2_at c]
  unfold atStart deal heldAny
  iintro ⟨#HE, ⟨⟨Hat, Hc, Ht1, Ht2⟩, HD⟩, HB, ⟨%f, Hf⟩, HO⟩
  ihave Hf := (Entails.of_eq (held_all c f)) $$ Hf
  icases Hf with ⟨HA, HH, HfY, HfZ⟩
  unfold owing
  icases HO with ⟨%W, HO⟩
  ihave #HIY := (env_inv x K (acrossY c) none) $$ HE
  ihave #HIZ := (env_inv x K (acrossZ c) none) $$ HE
  ihave #HI := (env_inv x K c none) $$ HE
  ihave #HrY := (env_reached x K (acrossY c) none) $$ HE
  ihave #HrZ := (env_reached x K (acrossZ c) none) $$ HE
  ihave #HL := (env_levels x K) $$ HE
  iapply (Rounds.wp_signal noVar EX (plan x) (c : Thread nD τ) none (dst := (acrossY c : Thread nD τ)) (κ := K (acrossY c, none))
      (r := 0) (d := false) (show false ∈ (Finset.univ : Finset Bool) from Finset.mem_univ _) (show (1 : ℕ) = (1#32 : BitVec 32).toNat by decide) () (debt c 0 0 + tallyAt (barCell (acrossZ c)) () 1) rfl)
    $$ [HO Ht1 HfY]
  · isplitr; · iexact HIY
    isplitl [HO]; · iexact HO
    isplitl [Ht1]; · iexact Ht1
    isplitl [HfY]
    · iapply (free_rowsY x c f); iexact HfY
    · iexact HrY
  iintro HO
  iapply (Rounds.wp_signal noVar EX (plan x) (c : Thread nD τ) none (dst := (acrossZ c : Thread nD τ)) (κ := K (acrossZ c, none))
      (r := 0) (d := true) (show true ∈ (Finset.univ : Finset Bool) from Finset.mem_univ _) (show (1 : ℕ) = (1#32 : BitVec 32).toNat by decide) () (debt c 0 0) rfl)
    $$ [HO Ht2 HfZ]
  · isplitr; · iexact HIZ
    isplitl [HO]; · iexact HO
    isplitl [Ht2]; · iexact Ht2
    isplitl [HfZ]
    · iapply (free_rowsZ x c f); iexact HfZ
    · iexact HrZ
  iintro HO
  iapply (Rounds.wp_wait_rest_token noVar EX (plan x) (c : Thread nD τ) none (κ := K (c, none))
      (wpE_semWait_eq noVar (c : Thread nD τ) none Set.univ) (Set.mem_univ _) () (O := debt c 0 0) (W := W) (R := 0) (m := 0) (T := ∅)
      (by rw [bar_expect]; decide)) $$ [Hc HO Hat]
  · isplitr; · iexact HI
    isplitl [Hc]; · iexact Hc
    isplitl [HO]; · iexact HO
    isplitr; · iapply (mayWait_bar c); iexact HL
    iexact Hat
  iintro ⟨HO, Hat, -, Hp⟩
  ihave Hp := (Entails.of_eq (bar_rest x c)) $$ Hp
  icases Hp with ⟨HpY, HpZ⟩
  imod (Rounds.cell_close EX (plan x) (Set.mem_univ (K (c, none))) (fun h => h) (R := 0 + 1) (plan_later x (barCell c))) $$ [Hat] with Hz
  · isplitr; · iexact HI
    iexact Hat
  ihave HS := (deal_out c) $$ [HD HA HpY HpZ]
  · isplitl [HD]; · iexact HD
    isplitl [HA]; · iapply (forget_chunks c (own c) f); iexact HA
    isplitl [HpY] <;> iassumption
  icases HS with ⟨HS1, HS2, HS3, HS4⟩
  iapply (run_ret c)
  isplitr; · ipureintro; rfl
  unfold phase1 rest1 restB owing
  rw [stages_begin]
  isplitr; · iexact HE
  isplitl [HB]; · iexact HB
  isplitl [HO]; · iexists _; iexact HO
  isplitl [HS1]; · iexact HS1
  isplitl [HH]; · iexists f; iexact HH
  isplitl [HS2]; · iexact HS2
  isplitl [HS3]; · iexact HS3
  isplitl [HS4] <;> iassumption

/-- What is known of a state may be used in what follows it. -/
theorem with_fact {φ : Prop} {S T : sProp 𝕄} (h : φ → S ⊢ T) : iprop(⌜φ⌝ ∗ S) ⊢ T := by
  iintro ⟨%hφ, HS⟩
  iapply (h hφ)
  iexact HS

/-- The parts one after the other, and most of the waits for what was sent. -/
theorem part18 : atStart x K c
      ⊢ run c (k0_part18 inM h0 outM h1 cc0_scratch0 cc0_scratch1 cc0_scratch2 cc0_scratch3) (fun r => iprop(⌜r = c⌝ ∗ phase4 x K c (rest4 x c) 8 7)) := by
  rw [k0_part18_eq_skeleton]; unfold k0_part18_skel
  refine run_bind c (part1 x K c) fun r => with_fact fun hr => ?_
  obtain ⟨d, v2, v5, v8, v9, v10, v24, v26, v29⟩ := r
  obtain rfl : d = c := hr
  refine run_bind d (part2 x K d) fun _ => ?_
  refine run_bind d (part3 x K d) fun ⟨_, _⟩ => ?_
  refine run_bind d (part4 x K d) fun _ => ?_
  refine run_bind d (part5 x K d) fun ⟨_, w⟩ => with_fact fun hw => ?_
  refine run_bind d (part6 x K d hw) fun _ => ?_
  refine (to_phase2 x K d).trans ?_
  refine run_bind d (part7 x K d) fun ⟨_, _⟩ => ?_
  refine run_bind d (part8 x K d) fun _ => ?_
  refine run_bind d (part9 x K d) fun _ => ?_
  refine run_bind d (part10 x K d) fun ⟨_, _⟩ => ?_
  refine run_bind d (part11 x K d) fun _ => ?_
  refine run_bind d (part12 x K d) fun ⟨_, _⟩ => ?_
  refine (to_phase3 x K d).trans ?_
  refine run_bind d (part13 x K d) fun _ => ?_
  refine run_bind d (part14 x K d) fun _ => ?_
  refine run_bind d (part15 x K d) fun ⟨_, _⟩ => ?_
  refine run_bind d (part16 x K d (to_phase4 x K d)) fun _ => ?_
  refine run_bind d (part17 x K d) fun _ => ?_
  simp only [Prog.lift, Prog.bind_op, Prog.bind_ret, Prog.pure_eq_ret]
  iintro HS
  iapply (back_waitY x K d 5 5 rfl rfl) $$ HS; iintro HS
  iapply (back_waitZ x K d 5 5 rfl rfl) $$ HS; iintro HS
  iapply (back_waitY x K d 6 6 rfl rfl) $$ HS; iintro HS
  iapply (back_waitZ x K d 6 6 rfl rfl) $$ HS; iintro HS
  iapply (back_waitY x K d 7 7 rfl rfl) $$ HS; iintro HS
  iapply (run_ret d)
  isplitr; · ipureintro; rfl
  iexact HS

/-- The whole body: from what a device is dealt to every cell closed and the gathered array in its result. -/
theorem body : atStart x K c
      ⊢ run c (cc0_body inM h0 outM h1 cc0_scratch0 cc0_scratch1 cc0_scratch2 cc0_scratch3) (fun _ => iprop(closed c ∗ block x c ∗ held c Finset.univ (gathered x c) ∗ owing c 0)) := by
  rw [cc0_body_eq_skeleton]; unfold cc0_body_skel
  refine run_bind c (part18 x K c) fun r => with_fact fun hr => ?_
  subst hr
  simp only [Prog.lift, Prog.bind_op, Prog.bind_ret, Prog.pure_eq_ret]
  iintro HS
  iapply (back_waitZ x K r 7 7 rfl rfl) $$ HS; iintro HS
  iapply (run_ret r)
  iapply (finish x K r)
  iexact HS

end Cert.Gather

end

end
-- ==== Proof.Deal.lean ====
/-
What the launch deals each device: credits from what all devices owe, and duties handed to the device that pays them.
-/
module

public import proofs.«01_k».proof.Proof.Body
public import Idealize.ShloMosaic.Lib.Pipeline.Launch

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ GU ℕ

/-! ### Families over a device's cells -/

/-- A family over a device's cells: the barrier's member and the transfers', kind by kind. -/
theorem by_cell (Φ : CellName → sProp 𝕄) :
    bigSep Finset.univ Φ = iprop(Φ none ∗ (bigSep Finset.univ fun i => Φ (some (0, i))) ∗ (bigSep Finset.univ fun i => Φ (some (1, i)))
      ∗ (bigSep Finset.univ fun i => Φ (some (2, i))) ∗ bigSep Finset.univ fun i => Φ (some (3, i))) := by
  have hu : (Finset.univ : Finset CellName) = insert none (Finset.univ.map Function.Embedding.some) := by
    ext n; cases n <;> simp
  have hi : bigSep Finset.univ Φ = iprop(Φ none ∗ bigSep (Finset.univ.map Function.Embedding.some) Φ) := by
    rw [hu]; exact BI.bigSep_insert (by simp)
  have hk : bigSep (Finset.univ.map Function.Embedding.some) Φ
      = bigSep Finset.univ fun k : Fin 4 => bigSep Finset.univ fun i : Fin 8 => Φ (some (k, i)) := by
    rw [bigSep_map, bigSep_univ_prod]; rfl
  rw [hi, hk]
  congr 1
  exact bigSep_univ_eq_bigSepL [0, 1, 2, 3] (by decide) (by decide) _

/-! ### The credits -/

/-- Summed over the devices, what one neighbour is owed at one cell. -/
theorem one_payer (σ : Fin 8 ≃ Fin 8) (n n' : CellName) (a : ℕ) (c : Dev nD) :
    ∑ d : Dev nD, (tallyAt (cellAt (σ d) n) () a : CellTallies nD τ sig Unit) (cellAt c n') () = if n' = n then a else 0 := by
  have h : ∀ d : Dev nD, (tallyAt (cellAt (σ d) n) () a : CellTallies nD τ sig Unit) (cellAt c n') ()
      = if d = σ.symm c then (if n' = n then a else 0) else 0 := fun d => by
    rw [tallyAt_apply]
    by_cases hn : n' = n
    · subst hn
      by_cases hd : d = σ.symm c
      · subst hd; rw [if_pos ⟨by rw [Equiv.apply_symm_apply], rfl⟩, if_pos rfl, if_pos rfl]
      · rw [if_neg, if_neg hd]
        rintro ⟨h, -⟩
        have := congrArg Prod.fst (cellAt_injective (a₁ := (c, n')) (a₂ := (σ d, n')) h)
        exact hd (by rw [show c = σ d from this, Equiv.symm_apply_apply])
    · rw [if_neg, if_neg hn, ite_self]
      rintro ⟨h, -⟩
      exact hn (congrArg Prod.snd (cellAt_injective (a₁ := (c, n')) (a₂ := (σ d, n)) h))
  rw [Finset.sum_congr rfl fun d _ => h d, Finset.sum_ite_eq' Finset.univ (σ.symm c) fun _ => _, if_pos (Finset.mem_univ _)]

/-- The debts from chunk 0 on are those of all chunks. -/
theorem fromOn_all (f : Fin 8 → CellTallies nD τ sig Unit) (g : GSem nD τ sig) : fromOn f 0 g () = ∑ i, f i g () := by
  unfold fromOn
  rw [Finset.sum_apply, Finsupp.finset_sum_apply, Finset.filter_true_of_mem fun _ _ => Nat.zero_le _]

/-- What all devices owe a cell of `c`: two units at the barrier, a chunk's at the cells `c` receives on. -/
theorem owed_at (c : Dev nD) (n : CellName) :
    ∑ d : Dev nD, debt₀ d (cellAt c n) () = (∑ i : Fin 8, if n = some (1, i) then units else 0) + (∑ i : Fin 8, if n = some (3, i) then units else 0)
      + (if n = none then 1 else 0) + (if n = none then 1 else 0) := by
  have hY : ∑ d : Dev nD, fromOn (oweY d) 0 (cellAt c n) () = ∑ i : Fin 8, if n = some (1, i) then units else 0 := by
    rw [Finset.sum_congr rfl fun d _ => fromOn_all (oweY d) (cellAt c n), Finset.sum_comm]
    exact Finset.sum_congr rfl fun i _ => one_payer flipY (some (1, i)) n units c
  have hZ : ∑ d : Dev nD, fromOn (oweZ d) 0 (cellAt c n) () = ∑ i : Fin 8, if n = some (3, i) then units else 0 := by
    rw [Finset.sum_congr rfl fun d _ => fromOn_all (oweZ d) (cellAt c n), Finset.sum_comm]
    exact Finset.sum_congr rfl fun i _ => one_payer flipZ (some (3, i)) n units c
  rw [← hY, ← hZ, ← one_payer flipZ none n 1 c]
  rw [show (∑ d : Dev nD, (tallyAt (cellAt (flipZ d) none) () 1 : CellTallies nD τ sig Unit) (cellAt c n) ())
    = ∑ d : Dev nD, (tallyAt (barCell (acrossZ d)) () 1 : CellTallies nD τ sig Unit) (cellAt c n) () from rfl]
  have hB : ∑ d : Dev nD, (tallyAt (barCell (acrossY d)) () 1 : CellTallies nD τ sig Unit) (cellAt c n) () = if n = none then 1 else 0 :=
    one_payer flipY none n 1 c
  have hB' : ∑ d : Dev nD, (tallyAt (barCell (acrossZ d)) () 1 : CellTallies nD τ sig Unit) (cellAt c n) () = if n = none then 1 else 0 :=
    one_payer flipZ none n 1 c
  rw [hB', ← hB]
  rw [show (∑ d : Dev nD, debt₀ d (cellAt c n) ()) = ∑ d : Dev nD, (fromOn (oweY d) 0 (cellAt c n) () + fromOn (oweZ d) 0 (cellAt c n) ()
      + (tallyAt (barCell (acrossZ d)) () 1 : CellTallies nD τ sig Unit) (cellAt c n) ()
      + (tallyAt (barCell (acrossY d)) () 1 : CellTallies nD τ sig Unit) (cellAt c n) ()) from rfl,
    Finset.sum_add_distrib, Finset.sum_add_distrib, Finset.sum_add_distrib, hB, hB']

/-- The credit the launch gives at a cell. -/
theorem credit_at (c : Dev nD) (n : CellName) (a : ℕ) (h : ∑ d : Dev nD, debt₀ d (cellAt c n) () = a) :
    tallyOn (cellAt c n) (launchCredit (Pipeline.owing debt₀) 0 (cellAt c n)) = (tallyAt (cellAt c n) () a : CellTallies nD τ sig Unit) := by
  unfold tallyAt
  refine congrArg _ (Finsupp.ext fun u => ?_)
  cases u
  rw [Pipeline.launchCredit_owing, Finsupp.single_eq_same, h]

/-- A device's credits at launch: two units of its barrier, and one chunk's units at each cell it receives on. -/
theorem credits (c : Dev nD) : (Pipeline.launchCred debt₀ c : sProp 𝕄)
    ⊢ iprop(cred (tallyAt (barCell c) () 2) ∗ (bigSep Finset.univ fun i => cred (tallyAt (dmaCell c 1 i) () units))
      ∗ bigSep Finset.univ fun i => cred (tallyAt (dmaCell c 3 i) () units)) := by
  have hc : ∀ n, ∑ d : Dev nD, debt₀ d (cellAt c n) () = _ := owed_at c
  have hb : tallyOn (cellAt c none) (launchCredit (Pipeline.owing debt₀) 0 (cellAt c none)) = (tallyAt (barCell c) () 2 : CellTallies nD τ sig Unit) :=
    credit_at c none 2 (by rw [hc]; simp)
  have h1 : ∀ i, tallyOn (cellAt c (some (1, i))) (launchCredit (Pipeline.owing debt₀) 0 (cellAt c (some (1, i)))) = (tallyAt (dmaCell c 1 i) () units : CellTallies nD τ sig Unit) :=
    fun i => credit_at c (some (1, i)) units (by rw [hc]; simp)
  have h3 : ∀ i, tallyOn (cellAt c (some (3, i))) (launchCredit (Pipeline.owing debt₀) 0 (cellAt c (some (3, i)))) = (tallyAt (dmaCell c 3 i) () units : CellTallies nD τ sig Unit) :=
    fun i => credit_at c (some (3, i)) units (by rw [hc]; simp)
  have hs : (Pipeline.launchCred debt₀ c : sProp 𝕄)
      ⊢ bigSep Finset.univ fun n : CellName => cred (tallyOn (cellAt c n) (launchCredit (Pipeline.owing debt₀) 0 (cellAt c n))) := by
    have hm : bigSep (Finset.univ.map ⟨semOf, semOf_injective⟩) (fun sm : SemLoc sig =>
          (cred (tallyOn ((c.tc : Thread nD τ), sm) (launchCredit (Pipeline.owing debt₀) 0 ((c.tc : Thread nD τ), sm))) : sProp 𝕄))
        = bigSep Finset.univ fun n : CellName => cred (tallyOn (cellAt c n) (launchCredit (Pipeline.owing debt₀) 0 (cellAt c n))) := by
      rw [bigSep_map]; rfl
    rw [← hm]
    exact bigSep_subset (Finset.subset_univ _)
  rw [by_cell, hb, bigSep_congr fun i _ => congrArg cred (h1 i), bigSep_congr fun i _ => congrArg cred (h3 i)] at hs
  iintro H
  ihave H := hs $$ H
  icases H with ⟨Hb, -, H1, -, H3⟩
  isplitl [Hb]; · iexact Hb
  isplitl [H1] <;> iassumption

end Cert.Gather

end

end
-- ==== Proof.Alloc.lean ====
/-
The launch's ghost state: the schedule's cells are funded, opened, and each duty handed to the device that pays it.
-/
module

public import proofs.«01_k».proof.Proof.Deal

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ GU ℕ

variable (x : Dev nD → InS.Idx → Elt F .bf16)

/-! ### Funding -/

/-- The schedule's cells on all devices. -/
def allCells : Finset (GSem nD τ sig) := Finset.univ.map ⟨fun cn : Dev nD × CellName => cellAt cn.1 cn.2, cellAt_injective⟩

/-- The duties of the cells: one at each, and the barrier's second. -/
def dutyOf (e : Dev nD × (CellName ⊕ Unit)) : GSem nD τ sig × ℕ × Bool :=
  (cellAt e.1 (e.2.elim id fun _ => none), 0, e.2.isRight)

/-- Different names are different duties. -/
theorem dutyOf_injective : Function.Injective dutyOf := by
  rintro ⟨c, a⟩ ⟨c', a'⟩ h
  have hc : (c, a.elim id fun _ => none) = (c', a'.elim id fun _ => none) := cellAt_injective (a₁ := (c, a.elim id fun _ => none)) (a₂ := (c', a'.elim id fun _ => none)) (congrArg Prod.fst h)
  have hb : a.isRight = a'.isRight := congrArg (fun t : GSem nD τ sig × ℕ × Bool => t.2.2) h
  refine Prod.ext (show c = c' from congrArg (fun t : Dev nD × CellName => t.1) hc) ?_
  rcases a with n | _ <;> rcases a' with n' | _
  · exact congrArg Sum.inl (show n = n' from congrArg (fun t : Dev nD × CellName => t.2) hc)
  · exact absurd hb (by simp)
  · exact absurd hb (by simp)
  · rfl

/-- The duties of all cells. -/
def allDuties : Finset (GSem nD τ sig × ℕ × Bool) := Finset.univ.map ⟨dutyOf, dutyOf_injective⟩

/-- The duties of the cells of device `c`. -/
def minted (c : Dev nD) : sProp 𝕄 :=
  iprop((bigSep Finset.univ fun n : CellName => dutyTok EX (cellAt c n) 0 false) ∗ dutyTok EX (barCell c) 0 true)

/-- What funding gives for device `c`. -/
def funded (c : Dev nD) : sProp 𝕄 :=
  iprop((bigSep Finset.univ fun n : CellName => roundState EX (plan x) (cellAt c n) 0) ∗ (bigSep Finset.univ fun n : CellName => reached EX (cellAt c n) 0)
    ∗ (bigSep Finset.univ fun n : CellName => atPos EX (cellAt c n) 0 ∅ 0) ∗ minted c)

/-- A family over all cells, device by device. -/
theorem over_cells (Φ : GSem nD τ sig → sProp 𝕄) :
    bigSep allCells Φ = bigSep Finset.univ fun c : Dev nD => bigSep Finset.univ fun n : CellName => Φ (cellAt c n) := by
  unfold allCells; rw [bigSep_map, bigSep_univ_prod]; rfl

/-- All duty tokens, device by device. -/
theorem over_duties : bigSep allDuties (fun t => (dutyTok EX t.1 t.2.1 t.2.2 : sProp 𝕄)) = bigSep Finset.univ minted := by
  unfold allDuties
  rw [bigSep_map, bigSep_univ_prod]
  refine bigSep_congr fun c _ => ?_
  unfold minted
  rw [bigSep_univ_sum, bigSep_univ_of_subsingleton ()]
  rfl

/-- From the initial ghost state every device's cells are funded. -/
theorem fund_all : BI.own (EX (initOf allCells allDuties)) ⊢ (|==> bigSep Finset.univ (funded x) : sProp 𝕄) := by
  have h : (BI.own (EX (initOf allCells allDuties)) : sProp 𝕄) ⊢ _ := Rounds.fund EX (plan x) allCells allDuties
  rw [over_cells, over_cells, over_cells, over_duties] at h
  refine h.trans (BI.bupd_mono ?_)
  show _ ⊢ bigSep Finset.univ (funded x)
  unfold funded
  rw [bigSep_sep', bigSep_sep', bigSep_sep']

/-! ### Opening the cells -/

/-- The kernel's own semaphores: the four rows of eight. -/
def ownSem (ki : Fin 4 × Fin 8) : SemLoc sig := .dma (semAt ki.1 ki.2)

/-- The kernel's own semaphores are distinct, scoped, and none of them the staging's. -/
theorem ownSem_facts : Pipeline.OwnSemFacts cfg0.spec ownSem := by decide

/-- The launch's one semaphore outside the region is the barrier's. -/
theorem unscoped_is_barrier (c : Dev nD) : (unscopedSems0 c : sProp 𝕄) = semVal (barCell c) 0 := by
  unfold unscopedSems0; rw [bigSep_eq_bigSepL_of_eq [SemLoc.reg barS] (by decide) (by decide)]; rfl

/-- The kernel's own semaphores, at zero. -/
def ownZero (c : Dev nD) : sProp 𝕄 :=
  Pipeline.ownSems0 (Ix := Unit) (Name := ℕ) (U := GU) (Lvl := ℕ) (Val := Elt F) (τ := τ) ownSem c

/-- The kernel's own semaphores are the transfer cells. -/
theorem ownZero_eq (c : Dev nD) : (ownZero c : sProp 𝕄) = bigSep Finset.univ fun ki : Fin 4 × Fin 8 => semVal (dmaCell c ki.1 ki.2) 0 := rfl

/-- With the barrier they are all the cells of the device, each at zero. -/
theorem all_zero (c : Dev nD) : iprop(ownZero c ∗ unscopedSems0 c) ⊢ (bigSep Finset.univ fun n : CellName => semVal (cellAt c n) 0 : sProp 𝕄) := by
  rw [ownZero_eq, unscoped_is_barrier, by_cell, bigSep_univ_prod, bigSep_univ_eq_bigSepL (I := Fin 4) [0, 1, 2, 3] (by decide) (by decide) _]
  exact BI.sep_comm

/-- What device `c` keeps: its positions, and the duties it pays. -/
def staked (c : Dev nD) : sProp 𝕄 :=
  iprop((bigSep Finset.univ fun n : CellName => atPos EX (cellAt c n) 0 ∅ 0)
    ∗ dutyTok EX (barCell (acrossY c)) 0 false ∗ dutyTok EX (barCell (acrossZ c)) 0 true
    ∗ (bigSep Finset.univ fun i => dutyTok EX (dmaCell c 0 i) 0 false) ∗ (bigSep Finset.univ fun i => dutyTok EX (dmaCell (acrossY c) 1 i) 0 false)
    ∗ (bigSep Finset.univ fun i => dutyTok EX (dmaCell c 2 i) 0 false) ∗ bigSep Finset.univ fun i => dutyTok EX (dmaCell (acrossZ c) 3 i) 0 false)

/-- The duties go across the mesh to the devices that pay them. -/
theorem hand_over : iprop((bigSep Finset.univ fun c : Dev nD => bigSep Finset.univ fun n : CellName => atPos EX (cellAt c n) 0 ∅ 0) ∗ bigSep Finset.univ minted)
    ⊢ (bigSep Finset.univ staked : sProp 𝕄) := by
  unfold minted staked
  simp only [bigSep_sep', by_cell (fun n : CellName => (dutyTok EX (cellAt _ n) 0 false : sProp 𝕄))]
  rw [bigSep_univ_equiv flipY (fun c : Dev nD => (dutyTok EX (cellAt c none) 0 false : sProp 𝕄)),
    bigSep_univ_equiv flipZ (fun c : Dev nD => (dutyTok EX (barCell c) 0 true : sProp 𝕄)),
    bigSep_univ_equiv flipY (fun c : Dev nD => (bigSep Finset.univ fun i => dutyTok EX (cellAt c (some (1, i))) 0 false : sProp 𝕄)),
    bigSep_univ_equiv flipZ (fun c : Dev nD => (bigSep Finset.univ fun i => dutyTok EX (cellAt c (some (3, i))) 0 false : sProp 𝕄))]
  iintro ⟨Hp, ⟨Hb, H0, H1, H2, H3⟩, Ht⟩
  isplitl [Hp]; · iexact Hp
  isplitl [Hb]; · iexact Hb
  isplitl [Ht]; · iexact Ht
  isplitl [H0]; · iexact H0
  isplitl [H1]; · iexact H1
  isplitl [H2]; · iexact H2
  iexact H3

/-- What the opened cells give everyone, but for the levels. -/
def opened (K : Dev nD × CellName → ℕ) : sProp 𝕄 :=
  iprop((bigSep Finset.univ fun cn : Dev nD × CellName => cellInv EX (plan x) (K cn) (cellAt cn.1 cn.2))
    ∗ bigSep Finset.univ fun cn : Dev nD × CellName => reached EX (cellAt cn.1 cn.2) 0)

/-- What the opened cells give can be used again and again. -/
instance opened_persistent (K : Dev nD × CellName → ℕ) : BI.Persistent (opened x K) := by unfold opened; infer_instance

/-- What device `c` enters the region with. -/
def entered (c : Dev nD) : sProp 𝕄 := iprop(∃ K, opened x K ∗ staked c)

/-- From counters at zero and the funding, every cell is opened and every device gets what it enters with. -/
theorem open_cells : (bigSep Finset.univ fun c : Dev nD => iprop(ownZero c ∗ unscopedSems0 c ∗ funded x c) : sProp 𝕄)
    ⊢ |={Set.univ}=> bigSep Finset.univ (entered x) := by
  have hz : (bigSep Finset.univ fun c : Dev nD => iprop(ownZero c ∗ unscopedSems0 c ∗ funded x c) : sProp 𝕄)
      ⊢ iprop((bigSep Finset.univ fun cn : Dev nD × CellName => iprop(semVal (cellAt cn.1 cn.2) 0 ∗ roundState EX (plan x) (cellAt cn.1 cn.2) 0))
        ∗ (bigSep Finset.univ fun cn : Dev nD × CellName => reached EX (cellAt cn.1 cn.2) 0)
        ∗ (bigSep Finset.univ fun c : Dev nD => bigSep Finset.univ fun n : CellName => atPos EX (cellAt c n) 0 ∅ 0) ∗ bigSep Finset.univ minted) := by
    have hd : ∀ c : Dev nD, iprop(ownZero c ∗ unscopedSems0 c ∗ funded x c) ⊢ (iprop((bigSep Finset.univ fun n : CellName => iprop(semVal (cellAt c n) 0
          ∗ roundState EX (plan x) (cellAt c n) 0)) ∗ (bigSep Finset.univ fun n : CellName => reached EX (cellAt c n) 0)
          ∗ (bigSep Finset.univ fun n : CellName => atPos EX (cellAt c n) 0 ∅ 0) ∗ minted c) : sProp 𝕄) := fun c => by
      unfold funded
      rw [bigSep_sep']
      iintro ⟨Ho, Hu, Hs, H⟩
      ihave Hz := (all_zero (F := F) c) $$ [Ho Hu]
      · isplitl [Ho] <;> iassumption
      isplitl [Hz Hs]
      · isplitl [Hz] <;> iassumption
      iexact H
    rw [bigSep_univ_prod, bigSep_univ_prod, ← bigSep_sep', ← bigSep_sep', ← bigSep_sep']
    exact bigSep_mono fun c _ => hd c
  have ho : (bigSep Finset.univ fun cn : Dev nD × CellName => iprop(semVal (cellAt cn.1 cn.2) 0 ∗ roundState EX (plan x) (cellAt cn.1 cn.2) 0) : sProp 𝕄)
      ⊢ |={Set.univ}=> bigSep Finset.univ fun cn : Dev nD × CellName => iprop(∃ κ : ℕ, cellInv EX (plan x) κ (cellAt cn.1 cn.2)) :=
    (bigSep_mono fun cn _ => (Rounds.body_intro EX (plan x) (cellAt cn.1 cn.2)).trans inv_alloc).trans (bigSep_fupd _ _)
  have hg : ∀ K : Dev nD × CellName → ℕ, iprop(opened x K ∗ bigSep Finset.univ fun c : Dev nD => staked c) ⊢ (bigSep Finset.univ (entered x) : sProp 𝕄) := fun K => by
    have hc : ∀ c : Dev nD, iprop(opened x K ∗ staked c) ⊢ (entered x c : sProp 𝕄) := fun c => by
      unfold entered; iintro H; iexists K; iexact H
    refine (sep_mono_left (BI.bigSep_of_persistent (Finset.univ : Finset (Dev nD)) (opened x K))).trans ?_
    rw [← bigSep_sep']
    exact bigSep_mono fun c _ => hc c
  iintro H
  ihave H := hz $$ H
  icases H with ⟨Hc, Hr, Hm⟩
  imod ho $$ Hc with Hc
  ihave Hc := (BI.bigSep_exists_pi Finset.univ (fun (cn : Dev nD × CellName) (κ : ℕ) => (cellInv EX (plan x) κ (cellAt cn.1 cn.2) : sProp 𝕄))) $$ Hc
  icases Hc with ⟨%K, Hc⟩
  ihave Hs := (hand_over (F := F)) $$ Hm
  imodintro
  iapply (hg K)
  isplitr [Hs]
  · unfold opened
    isplitl [Hc] <;> iassumption
  iexact Hs

/-! ### One device's share -/

/-- Positions, duties and credits, sorted by phase. -/
theorem deal_of (c : Dev nD) : iprop(staked c ∗ Pipeline.launchCred debt₀ c) ⊢ (deal c : sProp 𝕄) := by
  unfold staked deal dealt pending
  simp only [bigSep_sep']
  rw [by_cell]
  iintro ⟨⟨⟨Ab, A0, A1, A2, A3⟩, Tb, Tb', T0, T1, T2, T3⟩, Hc⟩
  ihave Hc := (credits (F := F) c) $$ Hc
  icases Hc with ⟨Cb, C1, C3⟩
  isplitl [Ab Cb Tb Tb']
  · isplitl [Ab]; · iexact Ab
    isplitl [Cb]; · iexact Cb
    isplitl [Tb] <;> iassumption
  isplitl [A0 A2]
  · isplitl [A0]; · iexact A0
    iexact A2
  isplitl [A1 C1 A3 C3]
  · isplitl [A1 C1]
    · isplitl [A1]; · iexact A1
      iexact C1
    · isplitl [A3]; · iexact A3
      iexact C3
  isplitl [T0 T1]
  · isplitl [T0]; · iexact T0
    iexact T1
  · isplitl [T2]; · iexact T2
    iexact T3

end Cert.Gather

end

end
-- ==== Proof.Launch.lean ====
/-
The run of the kernel on the mesh: every device's result is the gathered array.
-/
module

public import proofs.«01_k».proof.Proof.Alloc
public import proofs.«01_k».proof.Proof.Gen.KernelIdeal.Launch
public import proofs.«01_k».proof.Proof.Gen.KernelIdeal.Points
public import Idealize.ShloMosaic.Lib.Pipeline.Kit
public import Idealize.ShloMosaic.Lib.Tactic
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ GU ℕ

variable (m : (ℓ : Loc nD τ sig) → Buf (Elt F) ℓ) (ρ : Dev nD → PrngReg)

/-! ### What the region is given and gives back -/

/-- A device's block of the argument. -/
def xblk (c : Dev nD) : InS.Idx → Elt F .bf16 := (win0_0.blk (0 : Fin 1)).view.read (Elt F) (m ((c : Thread nD τ).loc main_arg0))

/-- What a device's body starts from, apart from its two buffers. -/
def start (c : Dev nD) : sProp 𝕄 := iprop(∃ K, env (xblk m) K ∗ deal c)

/-- The data of the one region: contents before and after its one point, and what is owed. -/
def dats (_ : Fin 1) (c : Dev nD) : Dat τ (Elt F) Unit ℕ GU ℕ cfg0 c where
  A w := m ((cfg0.win w).arr.view.loc (c : Thread nD τ))
  after w _ := match w with
    | ⟨0, _⟩ => xblk m c
    | ⟨1, _⟩ => gathered (xblk m) c
  Φ t := match t with
    | ⟨0, _⟩ => start m c
    | ⟨_ + 1, _⟩ => closed c
  q _ := fullShare
  owed t := match t with
    | ⟨0, _⟩ => debt₀ c
    | ⟨_ + 1, _⟩ => 0

/-- A buffer of device `c` held whole, its contents `X`. -/
abbrev buffer (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The grid has one point. -/
theorem one_point (t : Fin cfg0.N) : t = t0_0 := fin_N0 t

/-- What the region gives the body. -/
def given (c : Dev nD) : sProp 𝕄 :=
  iprop(start m c ∗ (dats m 0 c).owesAt () t0_0.castSucc ∗ (∃ d, buffer c cc0_stg0_0 ((dats m 0 c).before (0 : Fin 2) t0_0 d))
    ∗ ∃ d, buffer c cc0_stg1_0 ((dats m 0 c).before (1 : Fin 2) t0_0 d))

/-- What the region takes back from the body. -/
def returned (c : Dev nD) : sProp 𝕄 :=
  iprop(closed c ∗ (dats m 0 c).owesAt () t0_0.succ ∗ buffer c cc0_stg0_0 (xblk m c) ∗ buffer c cc0_stg1_0 (gathered (xblk m) c))

/-- What the region gives is where the body starts. -/
theorem given_start (c : Dev nD) : given m c ⊢ (iprop(∃ K, atStart (xblk m) K c) : sProp 𝕄) := by
  unfold given start Dat.owesAt Pipeline.owesWithin
  iintro ⟨⟨%K, He, Hd⟩, ⟨%W, -, HO⟩, ⟨%d, %f, %hf, Hx⟩, ⟨%d', %f', -, Ho⟩⟩
  have hx : f = xblk m c := by
    rw [hf]; unfold Dat.before; rw [if_pos (fetch0_0 t0_0)]; rfl
  subst hx
  iexists K
  unfold atStart block heldAny held owing
  isplitl [He]; · iexact He
  isplitl [Hd]; · iexact Hd
  isplitl [Hx]; · iexact Hx
  isplitl [Ho]; · iexists f'; iexact Ho
  iexists W; iexact HO

/-- What the body ends with is what the region takes back. -/
theorem end_returned (c : Dev nD) :
    iprop(closed c ∗ block (xblk m) c ∗ held c Finset.univ (gathered (xblk m) c) ∗ owing c 0) ⊢ (returned m c : sProp 𝕄) := by
  unfold returned Dat.owesAt Pipeline.owesWithin block held owing
  rw [show (dats m 0 c).owed t0_0.succ = 0 from rfl]
  iintro ⟨Hc, Hx, Ho, ⟨%W, HO⟩⟩
  isplitl [Hc]; · iexact Hc
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

/-- The body takes what the region gives to what it takes back. -/
theorem given_run (c : Dev nD) {h0 : inM.IsWhole} {h1 : outM.IsWhole} :
    given m c ⊢ run c (cc0_body inM h0 outM h1 cc0_scratch0 cc0_scratch1 cc0_scratch2 cc0_scratch3) (fun _ => returned m c) := by
  have hr : ∀ K, atStart (xblk m) K c ⊢ run c (cc0_body inM h0 outM h1 cc0_scratch0 cc0_scratch1 cc0_scratch2 cc0_scratch3) (fun _ => returned m c) :=
    fun K => (body (xblk m) K c).trans (wp_mono _ _ _ fun _ => end_returned m c)
  iintro H
  ihave H := (given_start m c) $$ H
  icases H with ⟨%K, H⟩
  iapply (hr K); iexact H

set_option maxRecDepth 65536 in
/-- The body meets the region's obligation. -/
theorem obligation (c : Dev nD) : BodyObligation (dats (F := F) m 0 c) (defs₀ (F := F)) noVar () Set.univ := fun t => by
  rw [one_point t, bigSep_W0, bigSep_W0]
  simp only [owns_whole_eq]
  show given m c ⊢ wp frame (wpE (defs₀ (F := F)) noVar c none) Set.univ
    (cc0_body (Memref.whole cc0_stg0_0) (Memref.isWhole_whole _) (Memref.whole cc0_stg1_0) (Memref.isWhole_whole _)
      cc0_scratch0 cc0_scratch1 cc0_scratch2 cc0_scratch3) (fun _ => returned m c)
  exact given_run m c

/-! ### The launch -/

/-- Every window is held in full. -/
theorem shares (c : Dev nD) (w : Fin cfg0.W) : (dats m 0 c).share w = fullShare := by unfold Dat.share; split <;> rfl

/-- The pipeline's waits on its staging semaphores are below everything owed. -/
theorem may_wait (c : Dev nD) : (levAts lvls lvl : sProp 𝕄) ⊢ Pipeline.cellsWaits cfgs (dats m) () 0 c :=
  Pipeline.cellsWaits_intro cfgs (dats m) () 0 c fun w s t => by
    rcases t with ⟨_ | _, ht⟩
    · exact mayWait_staging c _ (by fin_cases w <;> fin_cases s <;> decide)
    · exact mayWait_nothing c _

/-- What the launch leaves each device is where its body starts. -/
theorem enter (c : Dev nD) :
    iprop(Pipeline.unscopedRestP Pipeline.Prefetch.none cfg0.spec c (fun b => m ((c : Thread nD τ).loc b)) ∗ levAts lvls lvl
        ∗ Pipeline.launchCred debt₀ c ∗ prngReg c (ρ c) ∗ entered (xblk m) c)
      ⊢ |={Set.univ}=> iprop(start m c ∗ emp) := by
  unfold entered start
  iintro ⟨-, Hl, Hc, -, ⟨%K, Ho, Hs⟩⟩
  ihave Hd := (deal_of (F := F) c) $$ [Hs Hc]
  · isplitl [Hs] <;> iassumption
  imodintro
  isplitl
  · iexists K
    isplitr [Hd]
    · unfold opened env
      icases Ho with ⟨Hi, Hr⟩
      isplitl [Hi]; · iexact Hi
      isplitl [Hr]; · iexact Hr
      iexact Hl
    · iexact Hd
  · iempintro

/-- The region begins with the start. -/
theorem at_entry (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨H, -, -⟩; iexact H

/-- The region ends with every semaphore at zero. -/
theorem at_exit (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = closed c from rfl, scopedRest0_eq, unscoped_is_barrier,
    show (Pipeline.ownSems0 ownSem c : sProp 𝕄) = bigSep Finset.univ fun ki : Fin 4 × Fin 8 => semVal (dmaCell c ki.1 ki.2) 0 from rfl]
  unfold closed
  iintro ⟨Hb, Hd⟩
  isplitl [Hb]; · iexact Hb
  isplitl [Hd]; · iexact Hd
  iempintro

/-- The ghost state the launch starts with. -/
def initial : GU := (initOf (Pipeline.cells cfgs cellOf_inj) (Pipeline.launchToks cfgs cellOf_inj), initOf allCells allDuties)

set_option maxRecDepth 8000 in
/-- Run on the mesh from counters at zero, the kernel ends with every counter at zero and the arrays as the region leaves them. -/
theorem run_all : θ_run defs (onTc (τ := τ) (main (F := F))) ⟨m, fun _ => 0, ρ⟩ (fun r =>
    (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) EPipe defs₀ noVar m ρ main
    (hmain := fun _ => rfl)
    (hbody := obligation m) (hne := fun w => by fin_cases w <;> exact Nat.succ_pos _) (harr := arr_whole0) (hstage := stage_whole0) (hshare := shares m)
    (hdistinct := winFacts0.arr_inj)
    (O₀ := debt₀) (howed₀ := fun _ => rfl) (howedN := fun _ => rfl)
    (L := lvls) (lv := lvl) (hL := lvls_of_ne) (hwaits := may_wait m)
    (G := funded (xblk m)) (G' := entered (xblk m)) (u₀ := initial)
    (hu₀ := by
      unfold initial
      iintro Hu
      ihave H := (ownU_pair _ _) $$ Hu
      icases H with ⟨HP, HX⟩
      imod (fund_all (xblk m)) $$ HX with HG
      imodintro
      isplitl [HP] <;> iassumption)
    (hglob := open_cells (xblk m))
    (hA := fun _ _ => rfl) (hpf := fun _ k => k.elim0)
    (X := start m) (Y := fun c => unscopedSems0 c) (Z := fun _ => iprop(emp))
    (hX := enter m ρ) (hin := at_entry m) (hout := at_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Gather

end

end
-- ==== Proof.Value.lean ====
/-
What the arrays hold after the run: the argument what it held, the result the gathered array.
-/
module

public import proofs.«01_k».proof.Proof.Launch

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ GU ℕ

variable (m : (ℓ : Loc nD τ sig) → Buf (Elt F) ℓ) (ρ : Dev nD → PrngReg)

/-- The argument's array is not written. -/
theorem argument_after (c : Dev nD) : (dats m 0 c).arrAt (0 : Fin 2) cfg0.N = m ((c : Thread nD τ).loc main_arg0) :=
  (dats (F := F) m 0 c).arrAt_in (0 : Fin 2) rfl _

/-- The one block of a window over a whole array is the array, index by index. -/
theorem result_index (j : OutS.Idx) : ((cfg0.win 1).blk t0_0).view.emb j = j := by
  funext a
  match a with
  | ⟨0, _⟩ => exact Fin.ext (by show 0 * 8192 + 1 * (j 0).val = (j 0).val; omega)
  | ⟨1, _⟩ => exact Fin.ext (by show 0 * 1024 + 1 * (j 1).val = (j 1).val; omega)

/-- So is the argument's. -/
theorem argument_index (j : InS.Idx) : ((cfg0.win 0).blk t0_0).view.emb j = j := by
  funext a
  match a with
  | ⟨0, _⟩ => exact Fin.ext (by show 0 * 4096 + 1 * (j 0).val = (j 0).val; omega)
  | ⟨1, _⟩ => exact Fin.ext (by show 0 * 1024 + 1 * (j 1).val = (j 1).val; omega)

/-- A device's block is its part of the argument, whole. -/
theorem xblk_eq (c : Dev nD) : xblk m c = m ((c : Thread nD τ).loc main_arg0) := by
  funext j
  exact congrArg (m ((c : Thread nD τ).loc main_arg0)) (argument_index j)

/-- What the region writes back is the gathered array, read at the block. -/
theorem result_flushed (c : Dev nD) (t : Fin cfg0.N) :
    (dats m 0 c).flushed 1 t = ((cfg0.win 1).blk t).view.read (Elt F) (gathered (xblk m) c) := by
  rw [one_point t]
  funext j
  exact (congrArg (gathered (xblk m) c) (result_index j)).symm

/-- The one flush writes every element of the result. -/
theorem result_covered (i : OutS.Idx) : ∃ t : Fin cfg0.N, (cfg0.win 1).flush t = true ∧ i ∈ ((cfg0.win 1).blk t).view.set := by
  refine ⟨t0_0, flush0_1 _, ?_⟩
  rw [← result_index i]
  exact View.emb_mem_set _ _

/-- The result's array after the region. -/
theorem result_after (c : Dev nD) : (dats m 0 c).arrAt (1 : Fin 2) cfg0.N = gathered (xblk m) c :=
  (dats m 0 c).arrAt_eq_of_cover 1 (gathered (xblk m) c) (fun t _ => result_flushed m c t) result_covered

/-- Run on the mesh from counters at zero: every device's argument ends unchanged, its result gathered, its counters at zero. -/
theorem run_gathers : θ_run defs (onTc (τ := τ) (main (F := F))) ⟨m, fun _ => 0, ρ⟩ (fun r =>
    (∀ c : Dev nD, r.2.mem ((c : Thread nD τ).loc main_v1) = gathered (fun d : Dev nD => m ((d : Thread nD τ).loc main_arg0)) c
      ∧ r.2.mem ((c : Thread nD τ).loc main_arg0) = m ((c : Thread nD τ).loc main_arg0)) ∧ r.2.sem = fun _ => 0) := by
  refine θ_run_mono (run_all m ρ) fun r h => ⟨fun c => ⟨?_, (h.1 c 0).trans (argument_after m c)⟩, h.2⟩
  have hx : xblk m = fun d : Dev nD => m ((d : Thread nD τ).loc main_arg0) := funext fun d => xblk_eq m d
  rw [← hx]
  exact (h.1 c 1).trans (result_after m c)

end Cert.Gather

end

end
-- ==== Proof.Same.lean ====
/-
The kernel as printed and its idealization are one program: what is proved of a run of the one holds of the other.
-/
module

public import proofs.«01_k».proof.Proof.Gen.Kernel
public import proofs.«01_k».proof.Proof.Gen.KernelIdeal

@[expose] public section

namespace Cert.Gather

open Idealize.ShloMosaic Idealize.ShloMosaic.TcCoe
open Idealize.SL.Sem

variable {F : FTy → Type} [FloatOps F]

set_option maxRecDepth 65536

/-- The two programs' bodies agree. -/
theorem bodies_agree : Cert.Kernel.defs₀ (F := F) = Cert.KernelIdeal.defs₀ (F := F) := by
  funext p l x
  match p, l, x with
  | .tc, ⟨0, _⟩, (t, s) => rfl
  | .scScalar _, _, _ => rfl
  | .scVector _ _, _, _ => rfl

/-- So do their tables. -/
theorem tables_agree : Cert.Kernel.defs (F := F) = Cert.KernelIdeal.defs (F := F) :=
  congrArg (Pipeline.defs Cert.KernelIdeal.pcfgs) bodies_agree

/-- A property of the idealized program's runs is one of the printed program's. -/
theorem run_same (m : (ℓ : Loc Cert.KernelIdeal.nD Cert.KernelIdeal.τ Cert.KernelIdeal.sig) → Buf (Elt F) ℓ)
    (g : Dev Cert.KernelIdeal.nD → PrngReg) (Q)
    (h : θ_run (Cert.KernelIdeal.defs (F := F)) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  rw [tables_agree]; exact h

end Cert.Gather

end
-- ==== Proof.Reference.lean ====
/-
The reference, printed or idealized, returns its argument: a run of it changes nothing.
-/
module

public import proofs.«01_k».proof.Proof.Gen.Reference
public import proofs.«01_k».proof.Proof.Gen.ReferenceIdeal
public import Idealize.ShloMosaic.Lib.StableHlo.RunHlo
public import Idealize.ShloMosaic.Lib.Quiescent

@[expose] public section

namespace Cert.Gather

open Cert.ReferenceIdeal
open Idealize.ShloMosaic Idealize.ShloMosaic.TcCoe
open Idealize.SL.Sem

variable {F : FTy → Type} [FloatOps F]

/-- The idealized reference's run leaves every device's argument, which is its result, as it was, and counters at zero. -/
theorem reference_run (m : (ℓ : Loc nD τ sig) → Buf (Elt F) ℓ) (g : Dev nD → PrngReg) :
    θ_run (defs (F := F)) (onTc (τ := τ) (main (F := F))) ⟨m, fun _ => 0, g⟩ (fun r =>
      (∀ c : Dev nD, r.2.mem ((c : Thread nD τ).loc main_arg0) = m ((c : Thread nD τ).loc main_arg0)) ∧ r.2.sem = fun _ => 0) :=
  θ_run_mono (StableHlo.run_hlo defs main (ops := []) (fun _ => StableHlo.IsSeq.nil) (by decide) (by decide) trivial
    (fun _ h => nomatch h) m g) fun r h => ⟨fun c => h c main_arg0, sem_eq_zero_of_no_sems (by decide) r.2⟩

/-- The printed reference is the same program. -/
theorem printed_reference_run (m : (ℓ : Loc Cert.Reference.nD Cert.Reference.τ Cert.Reference.sig) → Buf (Elt F) ℓ)
    (g : Dev Cert.Reference.nD → PrngReg) :
    θ_run (Cert.Reference.defs (F := F)) (onTc (τ := Cert.Reference.τ) (Cert.Reference.main (F := F))) ⟨m, fun _ => 0, g⟩ (fun r =>
      (∀ c : Dev Cert.Reference.nD, r.2.mem (c.tc.loc Cert.Reference.main_arg0) = m (c.tc.loc Cert.Reference.main_arg0))
        ∧ r.2.sem = fun _ => 0) :=
  reference_run m g

end Cert.Gather

end
-- ==== Proof.Equation.lean ====
/-
Where every device holds its half of one array, the gathered array is that array.
-/
module

public import proofs.«01_k».proof.Proof.Mesh
public import Idealize.ShloMosaic.Lib.Layout

@[expose] public section

namespace Cert.Gather

open Idealize.ShloMosaic

/-- A device's block along the mesh's second axis: its rows start at 4096 times the device's place on that axis. -/
theorem gathered_of_blocks {α : Type} (x : Fin 8 → InS.Idx → α) (X : OutS.Idx → α)
    (hx : ∀ d, x d = Layout.blockN InS OutS (Layout.meshBlock [2, 2, 2] ![[1], []] d) X) (c : Fin 8) : gathered x c = X := by
  refine gathered_whole x c X fun d j p h0 h1 => ?_
  rw [hx d, Layout.blockN_apply]
  refine congrArg X (funext fun a => Fin.ext ?_)
  rw [Layout.TilesN.idx_val]
  have hd : ∀ d : Fin 8, Layout.meshLin [2, 2, 2] d.val [1] = d.val / 2 % 2 ∧ Layout.meshLin [2, 2, 2] d.val [] = 0 := by decide
  match a with
  | ⟨0, _⟩ =>
    show Layout.meshLin [2, 2, 2] d.val [1] * 4096 + (j 0).val = (p 0).val
    rw [(hd d).1, h0]; omega
  | ⟨1, _⟩ =>
    show Layout.meshLin [2, 2, 2] d.val [] * 1024 + (j 1).val = (p 1).val
    rw [(hd d).2, h1]; omega

end Cert.Gather

end
-- ==== Proof.lean ====
/-
The claims about the all-gather kernel and the reference, from the run of the kernel, the agreement of its two
programs, the run of the reference and the equation of the gathered array.
-/
module

public import proofs.«01_k».proof.Defs
public import proofs.«01_k».proof.Proof.Value
public import proofs.«01_k».proof.Proof.Same
public import proofs.«01_k».proof.Proof.Reference
public import proofs.«01_k».proof.Proof.Equation

@[expose] public section

noncomputable section

namespace Cert.Proof

open Idealize.ShloMosaic Idealize.SL.Sem Cert.Gather

/-- The printed kernel ends, with its argument unchanged and its counters at zero. -/
theorem frame_kernel : Cert.quiescent_Kernel (hKernel := Cert.Kernel.Gen.facts) := fun m g _ =>
  run_same m g _ (θ_run_mono (run_gathers m g) fun _ h => ⟨fun c => (h.1 c).2, h.2⟩)

/-- So does the idealized kernel. -/
theorem frame_ideal : Cert.quiescent_KernelIdeal (hKernelIdeal := Cert.KernelIdeal.Gen.facts) := fun m g _ =>
  θ_run_mono (run_gathers m g) fun _ h => ⟨fun c => (h.1 c).2, h.2⟩

/-- So does the idealized reference. -/
theorem frame_reference_ideal : Cert.quiescent_ReferenceIdeal (hReferenceIdeal := Cert.ReferenceIdeal.Gen.facts) := fun m g _ =>
  reference_run m g

/-- So does the printed reference. -/
theorem frame_reference : Cert.quiescent_Reference (hReference := Cert.Reference.Gen.facts) := fun m g _ =>
  printed_reference_run m g

/-- Over the extended reals every device of the kernel ends with the reference's whole result. -/
theorem value : Cert.algebraic_KernelIdeal_ReferenceIdeal (hKernelIdeal := Cert.KernelIdeal.Gen.facts)
    (hReferenceIdeal := Cert.ReferenceIdeal.Gen.facts) := fun m g m' g' _ hx =>
  ⟨_, θ_run_mono (run_gathers m g) fun _ h c => ⟨(h.1 c).1.trans (gathered_of_blocks _ _ hx c), (h.1 c).2⟩,
    θ_run_mono (reference_run m' g') fun _ h => ⟨h.1 0, h.1 0⟩⟩

/-- And over the float words it ends with the same words. -/
theorem words : Cert.bitexact_Kernel_Reference (hKernel := Cert.Kernel.Gen.facts) (hReference := Cert.Reference.Gen.facts) :=
  fun m g m' g' _ hx =>
  ⟨_, run_same m g _ (θ_run_mono (run_gathers m g) fun _ h c => ⟨(h.1 c).1.trans (gathered_of_blocks _ _ hx c), (h.1 c).2⟩),
    θ_run_mono (printed_reference_run m' g') fun _ h => ⟨h.1 0, h.1 0⟩⟩

theorem claim : Cert.Claim :=
  ⟨Cert.Kernel.Gen.facts, Cert.KernelIdeal.Gen.facts, Cert.ReferenceIdeal.Gen.facts, Cert.Reference.Gen.facts,
    frame_kernel, frame_ideal, frame_reference_ideal, frame_reference, trivial, value, words⟩

end Cert.Proof

end
